-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x4x1024x2 : Shape := ⟨4, ![64, 4, 1024, 2]⟩
abbrev S64x4x4096 : Shape := ⟨3, ![64, 4, 4096]⟩
abbrev S64x4x16384x2 : Shape := ⟨4, ![64, 4, 16384, 2]⟩
abbrev S2x8192x2 : Shape := ⟨3, ![2, 8192, 2]⟩
abbrev S_ : Shape := ⟨0, ![]⟩

class Facts : Prop where
  bcast_S_S2x8192x2 : S_.BroadcastsInDim S2x8192x2 (![] : Fin 0 → Fin S2x8192x2.rank)
  reducesTo_S2x8192x2_S_d0_1_2 : S2x8192x2.ReducesTo [0, 1, 2] S_
  h_S_ : 0 < S_.numel

variable [Facts]

def fn {F : FTy → Type} [FloatOps F] (main_arg0 : FVec F S64x4x1024x2 .f32) (main_arg1 : FVec F S64x4x1024x2 .f32) (main_arg2 : FVec F S64x4x4096 .f32) (main_arg3 : FVec F S64x4x16384x2 .f32) (main_arg4 : FVec F S64x4x1024x2 .f32) (main_arg5 : FVec F S64x4x1024x2 .f32) (main_arg6 : FVec F S64x4x4096 .f32) (main_arg7 : FVec F S64x4x16384x2 .f32) (main_arg8 : IVec S2x8192x2 32) (main_arg9 : IVec S2x8192x2 32) : IVec S_ 1 :=
  let main_c : IVec S_ 32 := constantI S_ 32 0#32
  let main_v0 : IVec S2x8192x2 32 := broadcastInDim S2x8192x2 ![] bcast_S_S2x8192x2 main_c
  let main_v1 : IVec S2x8192x2 1 := cmpi .sge main_arg8 main_v0
  let main_c_0 : IVec S_ 32 := constantI S_ 32 1024#32
  let main_v2 : IVec S2x8192x2 32 := broadcastInDim S2x8192x2 ![] bcast_S_S2x8192x2 main_c_0
  let main_v3 : IVec S2x8192x2 1 := cmpi .slt main_arg8 main_v2
  let main_v4 : IVec S2x8192x2 1 := andi main_v1 main_v3
  let main_c_1 : IVec S_ 1 := constantI S_ 1 1#1
  let main_v5 : IVec S_ 1 := (fun x v => Host.reduce IntOp.andi x v reducesTo_S2x8192x2_S_d0_1_2 h_S_) main_v4 main_c_1
  let main_c_2 : IVec S_ 32 := constantI S_ 32 0#32
  let main_v6 : IVec S2x8192x2 32 := broadcastInDim S2x8192x2 ![] bcast_S_S2x8192x2 main_c_2
  let main_v7 : IVec S2x8192x2 1 := cmpi .sge main_arg9 main_v6
  let main_c_3 : IVec S_ 32 := constantI S_ 32 4#32
  let main_v8 : IVec S2x8192x2 32 := broadcastInDim S2x8192x2 ![] bcast_S_S2x8192x2 main_c_3
  let main_v9 : IVec S2x8192x2 1 := cmpi .slt main_arg9 main_v8
  let main_v10 : IVec S2x8192x2 1 := andi main_v7 main_v9
  let main_c_4 : IVec S_ 1 := constantI S_ 1 1#1
  let main_v11 : IVec S_ 1 := (fun x v => Host.reduce IntOp.andi x v reducesTo_S2x8192x2_S_d0_1_2 h_S_) main_v10 main_c_4
  let main_v12 : IVec S_ 1 := andi main_v5 main_v11
  main_v12
-- ==== Kernel.lean ====
abbrev S64x4x1024x2 : Shape := ⟨4, ![64, 4, 1024, 2]⟩
abbrev S64x4x4096 : Shape := ⟨3, ![64, 4, 4096]⟩
abbrev S64x4x16384x2 : Shape := ⟨4, ![64, 4, 16384, 2]⟩
abbrev S2x8192x2 : Shape := ⟨3, ![2, 8192, 2]⟩
abbrev S256x2048 : Shape := ⟨2, ![256, 2048]⟩
abbrev S256x32768 : Shape := ⟨2, ![256, 32768]⟩
abbrev S32768 : Shape := ⟨1, ![32768]⟩
abbrev S256x4096 : Shape := ⟨2, ![256, 4096]⟩
abbrev S32x16 : Shape := ⟨2, ![32, 16]⟩
abbrev S2048 : Shape := ⟨1, ![2048]⟩
abbrev S4096 : Shape := ⟨1, ![4096]⟩
abbrev S16 : Shape := ⟨1, ![16]⟩
abbrev S_ : Shape := ⟨0, ![]⟩
abbrev S1x2048 : Shape := ⟨2, ![1, 2048]⟩
abbrev S1x4096 : Shape := ⟨2, ![1, 4096]⟩
abbrev S1x16 : Shape := ⟨2, ![1, 16]⟩

abbrev nBuf : Table → Nat
  | .hbm => 30
  | .local .scVector .vmem => 9
  | _ => 0

abbrev bufTy : (tb : Table) → Fin (nBuf tb) → BufTy
  | .hbm, ⟨0, _⟩ => ⟨S64x4x1024x2, .f32⟩
  | .hbm, ⟨1, _⟩ => ⟨S64x4x1024x2, .f32⟩
  | .hbm, ⟨2, _⟩ => ⟨S64x4x4096, .f32⟩
  | .hbm, ⟨3, _⟩ => ⟨S64x4x16384x2, .f32⟩
  | .hbm, ⟨4, _⟩ => ⟨S64x4x1024x2, .f32⟩
  | .hbm, ⟨5, _⟩ => ⟨S64x4x1024x2, .f32⟩
  | .hbm, ⟨6, _⟩ => ⟨S64x4x4096, .f32⟩
  | .hbm, ⟨7, _⟩ => ⟨S64x4x16384x2, .f32⟩
  | .hbm, ⟨8, _⟩ => ⟨S2x8192x2, .i32⟩
  | .hbm, ⟨9, _⟩ => ⟨S2x8192x2, .i32⟩
  | .hbm, ⟨10, _⟩ => ⟨S256x2048, .f32⟩
  | .hbm, ⟨11, _⟩ => ⟨S256x2048, .f32⟩
  | .hbm, ⟨12, _⟩ => ⟨S256x32768, .f32⟩
  | .hbm, ⟨13, _⟩ => ⟨S256x32768, .f32⟩
  | .hbm, ⟨14, _⟩ => ⟨S32768, .i32⟩
  | .hbm, ⟨15, _⟩ => ⟨S32768, .i32⟩
  | .hbm, ⟨16, _⟩ => ⟨S256x2048, .f32⟩
  | .hbm, ⟨17, _⟩ => ⟨S256x2048, .f32⟩
  | .hbm, ⟨18, _⟩ => ⟨S256x4096, .f32⟩
  | .hbm, ⟨19, _⟩ => ⟨S256x4096, .f32⟩
  | .hbm, ⟨20, _⟩ => ⟨S32x16, .f32⟩
  | .hbm, ⟨21, _⟩ => ⟨S32x16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S4096, .f32⟩
  | .local .scVector .vmem, ⟨4, _⟩ => ⟨S4096, .f32⟩
  | .local .scVector .vmem, ⟨5, _⟩ => ⟨S32768, .i32⟩
  | .local .scVector .vmem, ⟨6, _⟩ => ⟨S32768, .i32⟩
  | .local .scVector .vmem, ⟨7, _⟩ => ⟨S16, .f32⟩
  | .local .scVector .vmem, ⟨8, _⟩ => ⟨S16, .f32⟩
  | _, _ => ⟨S64x4x1024x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v0_scv : Ref sig .scVector := ⟨.hbm, 10, rfl⟩
abbrev main_v1_scv : Ref sig .scVector := ⟨.hbm, 11, rfl⟩
abbrev main_v2_scv : Ref sig .scVector := ⟨.hbm, 12, rfl⟩
abbrev main_v3_scv : Ref sig .scVector := ⟨.hbm, 13, rfl⟩
abbrev main_v4_scv : Ref sig .scVector := ⟨.hbm, 14, rfl⟩
abbrev main_v5_scv : Ref sig .scVector := ⟨.hbm, 15, rfl⟩
abbrev main_v6_scv : Ref sig .scVector := ⟨.hbm, 16, rfl⟩
abbrev main_v7_scv : Ref sig .scVector := ⟨.hbm, 17, rfl⟩
abbrev main_v8_scv : Ref sig .scVector := ⟨.hbm, 18, rfl⟩
abbrev main_v9_scv : Ref sig .scVector := ⟨.hbm, 19, rfl⟩
abbrev main_v10_0_scv : Ref sig .scVector := ⟨.hbm, 20, rfl⟩
abbrev main_v10_1_scv : Ref sig .scVector := ⟨.hbm, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v10 : BitVec 32 := Scalar.muli v1 c8_i32_6
  let c0_i32 : BitVec 32 := 0#32
  let c1_i32 : BitVec 32 := 1#32
  let arg23 : BitVec 32 := Scf.iv c0_i32 c1_i32 k0_t1
  let v11 : BitVec 32 := Scalar.addi v10 arg23
  let c0_i32_14_r0 : BitVec 32 := 0#32
  ![v11.toNat, 0]
@[reducible] def k0_t2_loop : Scf.Loop 32 :=
  let c0_i32_7 : BitVec 32 := 0#32
  let c64_i32 : BitVec 32 := 64#32
  let v12 : BitVec 32 := Scalar.addi c0_i32_7 c64_i32
  let c1_i32_8 : BitVec 32 := 1#32
  ⟨c0_i32_7, v12, c1_i32_8⟩

def k0_chk2 (v23 : IVec S16 32) : Prop :=
  (∀ a x, ((![v23] : Fin 1 → IVec S16 32) a x).toNat < S4096.size a)
theorem k0_idx2_inb : ∀ (v23 : IVec S16 32) (k0_hw2 : k0_chk2 v23), ∀ a x, ((![v23] : Fin 1 → IVec S16 32) a x).toNat < S4096.size a := fun v23 k0_hw2 => k0_hw2

def k0_chk1 (v20 : IVec S16 32) : Prop :=
  (∀ a x, ((![v20] : Fin 1 → IVec S16 32) a x).toNat < S4096.size a) ∧
  (∀ a x, ((![v20] : Fin 1 → IVec S16 32) a x).toNat < S4096.size a)
theorem k0_idx1_inb : ∀ (v20 : IVec S16 32) (k0_hw1 : k0_chk1 v20), ∀ a x, ((![v20] : Fin 1 → IVec S16 32) a x).toNat < S4096.size a := fun v20 k0_hw1 => k0_hw1.1
theorem k0_idx3_inb : ∀ (v20 : IVec S16 32) (k0_hw1 : k0_chk1 v20), ∀ a x, ((![v20] : Fin 1 → IVec S16 32) a x).toNat < S4096.size a := fun v20 k0_hw1 => k0_hw1.2

def k0_chk3 (v27 : IVec S16 32) : Prop :=
  (∀ a x, ((![v27] : Fin 1 → IVec S16 32) a x).toNat < S4096.size a)
theorem k0_idx4_inb : ∀ (v27 : IVec S16 32) (k0_hw3 : k0_chk3 v27), ∀ a x, ((![v27] : Fin 1 → IVec S16 32) a x).toNat < S4096.size a := fun v27 k0_hw3 => k0_hw3
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v10 : BitVec 32 := Scalar.muli v1 c8_i32_6
  let c0_i32 : BitVec 32 := 0#32
  let c1_i32 : BitVec 32 := 1#32
  let arg23 : BitVec 32 := Scf.iv c0_i32 c1_i32 k0_t1
  let v11 : BitVec 32 := Scalar.addi v10 arg23
  let c0_i32_13_r2 : BitVec 32 := 0#32
  ![v11.toNat, 0]
@[reducible] def k0_t3_loop : Scf.Loop 32 :=
  let c0_i32_10 : BitVec 32 := 0#32
  let c256_i32 : BitVec 32 := 256#32
  let v14 : BitVec 32 := Scalar.addi c0_i32_10 c256_i32
  let c1_i32_11 : BitVec 32 := 1#32
  ⟨c0_i32_10, v14, c1_i32_11⟩
def k0_off3 (k0_t3 : Fin k0_t3_loop.trips) : Fin 1 → Nat :=
  let c0_i32_10 : BitVec 32 := 0#32
  let c1_i32_11 : BitVec 32 := 1#32
  let arg25 : BitVec 32 := Scf.iv c0_i32_10 c1_i32_11 k0_t3
  let c16_i32 : BitVec 32 := 16#32
  let v16 : BitVec 32 := Scalar.muli arg25 c16_i32
  let v17 : Index := Scalar.indexCast v16
  ![v17.toNat]
@[reducible] def k0_t4_loop : Scf.Loop 32 :=
  let c0_i32_1 : BitVec 32 := 0#32
  let c8_i32_2 : BitVec 32 := 8#32
  let v7 : BitVec 32 := Scalar.addi c0_i32_1 c8_i32_2
  let c1_i32_3 : BitVec 32 := 1#32
  ⟨c0_i32_1, v7, c1_i32_3⟩
def k0_off4 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v10 : BitVec 32 := Scalar.muli v1 c8_i32_6
  let c0_i32_1 : BitVec 32 := 0#32
  let c1_i32_3 : BitVec 32 := 1#32
  let arg23 : BitVec 32 := Scf.iv c0_i32_1 c1_i32_3 k0_t4
  let v11 : BitVec 32 := Scalar.addi v10 arg23
  let c0_i32_15_r6 : BitVec 32 := 0#32
  ![v11.toNat, 0]
@[reducible] def k0_t5_loop : Scf.Loop 32 :=
  let c0_i32_8 : BitVec 32 := 0#32
  let c128_i32 : BitVec 32 := 128#32
  let v12 : BitVec 32 := Scalar.addi c0_i32_8 c128_i32
  let c1_i32_9 : BitVec 32 := 1#32
  ⟨c0_i32_8, v12, c1_i32_9⟩
def k0_off5 (k0_t5 : Fin k0_t5_loop.trips) : Fin 1 → Nat :=
  let c0_i32_8 : BitVec 32 := 0#32
  let c1_i32_9 : BitVec 32 := 1#32
  let arg25 : BitVec 32 := Scf.iv c0_i32_8 c1_i32_9 k0_t5
  let c16_i32 : BitVec 32 := 16#32
  let v15 : BitVec 32 := Scalar.muli arg25 c16_i32
  let v16 : Index := Scalar.indexCast v15
  ![v16.toNat]
@[reducible] def k0_t6_loop : Scf.Loop 32 :=
  let c0_i32_11 : BitVec 32 := 0#32
  let c8_i32_12 : BitVec 32 := 8#32
  let v13 : BitVec 32 := Scalar.addi c0_i32_11 c8_i32_12
  let c1_i32_13 : BitVec 32 := 1#32
  ⟨c0_i32_11, v13, c1_i32_13⟩
def k0_off6 (i : grid0.Coords) (k0_t4 : Fin k0_t4_loop.trips) (k0_t6 : Fin k0_t6_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v10 : BitVec 32 := Scalar.muli v1 c8_i32_6
  let c0_i32_1 : BitVec 32 := 0#32
  let c1_i32_3 : BitVec 32 := 1#32
  let arg23 : BitVec 32 := Scf.iv c0_i32_1 c1_i32_3 k0_t4
  let v11 : BitVec 32 := Scalar.addi v10 arg23
  let c0_i32_11 : BitVec 32 := 0#32
  let c1_i32_13 : BitVec 32 := 1#32
  let arg25 : BitVec 32 := Scf.iv c0_i32_11 c1_i32_13 k0_t6
  let c4096_i32 : BitVec 32 := 4096#32
  let v15 : BitVec 32 := Scalar.muli arg25 c4096_i32
  ![v11.toNat, v15.toNat]
@[reducible] def k0_t7_loop : Scf.Loop 32 :=
  let c0_i32_15 : BitVec 32 := 0#32
  let c128_i32_16 : BitVec 32 := 128#32
  let v17 : BitVec 32 := Scalar.addi c0_i32_15 c128_i32_16
  let c1_i32_17 : BitVec 32 := 1#32
  ⟨c0_i32_15, v17, c1_i32_17⟩

def k0_chk5 (v27 : IVec S16 32) : Prop :=
  (∀ a x, ((![v27] : Fin 1 → IVec S16 32) a x).toNat < S32768.size a)
theorem k0_idx6_inb : ∀ (v27 : IVec S16 32) (k0_hw5 : k0_chk5 v27), ∀ a x, ((![v27] : Fin 1 → IVec S16 32) a x).toNat < S32768.size a := fun v27 k0_hw5 => k0_hw5

def k0_chk4 (v24 : IVec S16 32) : Prop :=
  (∀ a x, ((![v24] : Fin 1 → IVec S16 32) a x).toNat < S32768.size a) ∧
  (∀ a x, ((![v24] : Fin 1 → IVec S16 32) a x).toNat < S32768.size a)
theorem k0_idx5_inb : ∀ (v24 : IVec S16 32) (k0_hw4 : k0_chk4 v24), ∀ a x, ((![v24] : Fin 1 → IVec S16 32) a x).toNat < S32768.size a := fun v24 k0_hw4 => k0_hw4.1
theorem k0_idx7_inb : ∀ (v24 : IVec S16 32) (k0_hw4 : k0_chk4 v24), ∀ a x, ((![v24] : Fin 1 → IVec S16 32) a x).toNat < S32768.size a := fun v24 k0_hw4 => k0_hw4.2

def k0_chk6 (v31 : IVec S16 32) : Prop :=
  (∀ a x, ((![v31] : Fin 1 → IVec S16 32) a x).toNat < S32768.size a)
theorem k0_idx8_inb : ∀ (v31 : IVec S16 32) (k0_hw6 : k0_chk6 v31), ∀ a x, ((![v31] : Fin 1 → IVec S16 32) a x).toNat < S32768.size a := fun v31 k0_hw6 => k0_hw6

def k0_chk8 (v47 : IVec S16 32) : Prop :=
  (∀ a x, ((![v47] : Fin 1 → IVec S16 32) a x).toNat < S2048.size a)
theorem k0_idx10_inb : ∀ (v47 : IVec S16 32) (k0_hw8 : k0_chk8 v47), ∀ a x, ((![v47] : Fin 1 → IVec S16 32) a x).toNat < S2048.size a := fun v47 k0_hw8 => k0_hw8

def k0_chk10 (v51 : IVec S16 32) : Prop :=
  (∀ a x, ((![v51] : Fin 1 → IVec S16 32) a x).toNat < S2048.size a)
theorem k0_idx12_inb : ∀ (v51 : IVec S16 32) (k0_hw10 : k0_chk10 v51), ∀ a x, ((![v51] : Fin 1 → IVec S16 32) a x).toNat < S2048.size a := fun v51 k0_hw10 => k0_hw10

def k0_chk7 (v42 : IVec S16 32) : Prop :=
  (∀ a x, ((![v42] : Fin 1 → IVec S16 32) a x).toNat < S2048.size a) ∧
  (∀ a x, ((![v42] : Fin 1 → IVec S16 32) a x).toNat < S2048.size a)
theorem k0_idx9_inb : ∀ (v42 : IVec S16 32) (k0_hw7 : k0_chk7 v42), ∀ a x, ((![v42] : Fin 1 → IVec S16 32) a x).toNat < S2048.size a := fun v42 k0_hw7 => k0_hw7.1
theorem k0_idx13_inb : ∀ (v42 : IVec S16 32) (k0_hw7 : k0_chk7 v42), ∀ a x, ((![v42] : Fin 1 → IVec S16 32) a x).toNat < S2048.size a := fun v42 k0_hw7 => k0_hw7.2

def k0_chk11 (v55 : IVec S16 32) : Prop :=
  (∀ a x, ((![v55] : Fin 1 → IVec S16 32) a x).toNat < S2048.size a)
theorem k0_idx14_inb : ∀ (v55 : IVec S16 32) (k0_hw11 : k0_chk11 v55), ∀ a x, ((![v55] : Fin 1 → IVec S16 32) a x).toNat < S2048.size a := fun v55 k0_hw11 => k0_hw11

def k0_chk9 (v44 : IVec S16 32) : Prop :=
  (∀ a x, ((![v44] : Fin 1 → IVec S16 32) a x).toNat < S2048.size a) ∧
  (∀ a x, ((![v44] : Fin 1 → IVec S16 32) a x).toNat < S2048.size a)
theorem k0_idx11_inb : ∀ (v44 : IVec S16 32) (k0_hw9 : k0_chk9 v44), ∀ a x, ((![v44] : Fin 1 → IVec S16 32) a x).toNat < S2048.size a := fun v44 k0_hw9 => k0_hw9.1
theorem k0_idx15_inb : ∀ (v44 : IVec S16 32) (k0_hw9 : k0_chk9 v44), ∀ a x, ((![v44] : Fin 1 → IVec S16 32) a x).toNat < S2048.size a := fun v44 k0_hw9 => k0_hw9.2

def k0_chk12 (v59 : IVec S16 32) : Prop :=
  (∀ a x, ((![v59] : Fin 1 → IVec S16 32) a x).toNat < S2048.size a)
theorem k0_idx16_inb : ∀ (v59 : IVec S16 32) (k0_hw12 : k0_chk12 v59), ∀ a x, ((![v59] : Fin 1 → IVec S16 32) a x).toNat < S2048.size a := fun v59 k0_hw12 => k0_hw12

def k0_chk13 (v79 : IVec S16 32) : Prop :=
  (∀ a x, ((![v79] : Fin 1 → IVec S16 32) a x).toNat < S4096.size a) ∧
  (∀ a x, ((![v79] : Fin 1 → IVec S16 32) a x).toNat < S4096.size a)
theorem k0_idx17_inb : ∀ (v79 : IVec S16 32) (k0_hw13 : k0_chk13 v79), ∀ a x, ((![v79] : Fin 1 → IVec S16 32) a x).toNat < S4096.size a := fun v79 k0_hw13 => k0_hw13.1
theorem k0_idx18_inb : ∀ (v79 : IVec S16 32) (k0_hw13 : k0_chk13 v79), ∀ a x, ((![v79] : Fin 1 → IVec S16 32) a x).toNat < S4096.size a := fun v79 k0_hw13 => k0_hw13.2

def k0_chk14 (v84 : IVec S16 32) : Prop :=
  (∀ a x, ((![v84] : Fin 1 → IVec S16 32) a x).toNat < S4096.size a)
theorem k0_idx19_inb : ∀ (v84 : IVec S16 32) (k0_hw14 : k0_chk14 v84), ∀ a x, ((![v84] : Fin 1 → IVec S16 32) a x).toNat < S4096.size a := fun v84 k0_hw14 => k0_hw14

def k0_chk15 (v87 : IVec S16 32) : Prop :=
  (∀ a x, ((![v87] : Fin 1 → IVec S16 32) a x).toNat < S4096.size a)
theorem k0_idx20_inb : ∀ (v87 : IVec S16 32) (k0_hw15 : k0_chk15 v87), ∀ a x, ((![v87] : Fin 1 → IVec S16 32) a x).toNat < S4096.size a := fun v87 k0_hw15 => k0_hw15
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r10 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x4x1024x2 : Shape := ⟨4, ![64, 4, 1024, 2]⟩
abbrev S64x4x4096 : Shape := ⟨3, ![64, 4, 4096]⟩
abbrev S64x4x16384x2 : Shape := ⟨4, ![64, 4, 16384, 2]⟩
abbrev S2x8192x2 : Shape := ⟨3, ![2, 8192, 2]⟩
abbrev S64x4x1024x1 : Shape := ⟨4, ![64, 4, 1024, 1]⟩
abbrev S64x4x1024 : Shape := ⟨3, ![64, 4, 1024]⟩
abbrev S_ : Shape := ⟨0, ![]⟩
abbrev S64x4x5120 : Shape := ⟨3, ![64, 4, 5120]⟩
abbrev S1x8192x2 : Shape := ⟨3, ![1, 8192, 2]⟩
abbrev S8192x2 : Shape := ⟨2, ![8192, 2]⟩
abbrev S8192x1 : Shape := ⟨2, ![8192, 1]⟩
abbrev S8192 : Shape := ⟨1, ![8192]⟩
abbrev S1 : Shape := ⟨1, ![1]⟩
abbrev S1x1 : Shape := ⟨2, ![1, 1]⟩
abbrev S64x4x8192x2 : Shape := ⟨4, ![64, 4, 8192, 2]⟩
abbrev S1x1x8192x1 : Shape := ⟨4, ![1, 1, 8192, 1]⟩
abbrev S64x4x8192x1 : Shape := ⟨4, ![64, 4, 8192, 1]⟩
abbrev S64x4x8192 : Shape := ⟨3, ![64, 4, 8192]⟩
abbrev S64x4 : Shape := ⟨2, ![64, 4]⟩
abbrev S256 : Shape := ⟨1, ![256]⟩
abbrev S64x4x16384 : Shape := ⟨3, ![64, 4, 16384]⟩
abbrev S4194304 : Shape := ⟨1, ![4194304]⟩

abbrev nBuf : Space → Nat
  | .hbm => 428
  | .vmem => 0
  | .smem => 0
  | _ => 0

abbrev hbmTy0_0 (i : Nat) : BufTy := match i % 128 with
  | 0 => ⟨S64x4x1024x2, .f32⟩
  | 1 => ⟨S64x4x1024x2, .f32⟩
  | 2 => ⟨S64x4x4096, .f32⟩
  | 3 => ⟨S64x4x16384x2, .f32⟩
  | 4 => ⟨S64x4x1024x2, .f32⟩
  | 5 => ⟨S64x4x1024x2, .f32⟩
  | 6 => ⟨S64x4x4096, .f32⟩
  | 7 => ⟨S64x4x16384x2, .f32⟩
  | 8 => ⟨S2x8192x2, .i32⟩
  | 9 => ⟨S2x8192x2, .i32⟩
  | 10 => ⟨S64x4x4096, .f32⟩
  | 11 => ⟨S64x4x1024x1, .f32⟩
  | 12 => ⟨S64x4x1024, .f32⟩
  | 13 => ⟨S64x4x1024x1, .f32⟩
  | 14 => ⟨S64x4x1024, .f32⟩
  | 15 => ⟨S64x4x1024, .f32⟩
  | 16 => ⟨S64x4x1024x1, .f32⟩
  | 17 => ⟨S64x4x1024, .f32⟩
  | 18 => ⟨S_, .f32⟩
  | 19 => ⟨S64x4x1024, .f32⟩
  | 20 => ⟨S64x4x1024, .f32⟩
  | 21 => ⟨S64x4x1024x1, .f32⟩
  | 22 => ⟨S64x4x1024, .f32⟩
  | 23 => ⟨S64x4x1024x1, .f32⟩
  | 24 => ⟨S64x4x1024, .f32⟩
  | 25 => ⟨S64x4x1024, .f32⟩
  | 26 => ⟨S64x4x1024, .f32⟩
  | 27 => ⟨S64x4x1024, .f32⟩
  | 28 => ⟨S64x4x5120, .f32⟩
  | 29 => ⟨S64x4x16384x2, .f32⟩
  | 30 => ⟨S64x4x1024x2, .f32⟩
  | 31 => ⟨S1x8192x2, .i32⟩
  | 32 => ⟨S8192x2, .i32⟩
  | 33 => ⟨S1x8192x2, .i32⟩
  | 34 => ⟨S8192x2, .i32⟩
  | 35 => ⟨S8192x1, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S1, .i32⟩
  | 46 => ⟨S_, .i32⟩
  | 47 => ⟨S8192x1, .i32⟩
  | 48 => ⟨S8192x1, .i1⟩
  | 49 => ⟨S1x1, .i32⟩
  | 50 => ⟨S8192x1, .i32⟩
  | 51 => ⟨S8192x1, .i1⟩
  | 52 => ⟨S8192x1, .i1⟩
  | 53 => ⟨S_, .i1⟩
  | 54 => ⟨S8192, .i1⟩
  | 55 => ⟨S64x4x8192x2, .f32⟩
  | 56 => ⟨S64x4x8192x2, .i1⟩
  | 57 => ⟨S_, .f32⟩
  | 58 => ⟨S64x4x8192x2, .f32⟩
  | 59 => ⟨S64x4x8192x2, .f32⟩
  | 60 => ⟨S8192x1, .i32⟩
  | 61 => ⟨S8192, .i32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S1, .i32⟩
  | 71 => ⟨S_, .i32⟩
  | 72 => ⟨S8192x1, .i32⟩
  | 73 => ⟨S8192x1, .i1⟩
  | 74 => ⟨S1x1, .i32⟩
  | 75 => ⟨S8192x1, .i32⟩
  | 76 => ⟨S8192x1, .i1⟩
  | 77 => ⟨S8192x1, .i1⟩
  | 78 => ⟨S_, .i1⟩
  | 79 => ⟨S8192, .i1⟩
  | 80 => ⟨S64x4x8192x2, .f32⟩
  | 81 => ⟨S64x4x8192x2, .i1⟩
  | 82 => ⟨S_, .f32⟩
  | 83 => ⟨S64x4x8192x2, .f32⟩
  | 84 => ⟨S64x4x8192x2, .f32⟩
  | 85 => ⟨S8192x1, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S1, .i32⟩
  | 96 => ⟨S_, .i32⟩
  | 97 => ⟨S8192x1, .i32⟩
  | 98 => ⟨S8192x1, .i1⟩
  | 99 => ⟨S1x1, .i32⟩
  | 100 => ⟨S8192x1, .i32⟩
  | 101 => ⟨S8192x1, .i1⟩
  | 102 => ⟨S8192x1, .i1⟩
  | 103 => ⟨S_, .i1⟩
  | 104 => ⟨S8192, .i1⟩
  | 105 => ⟨S64x4x8192x2, .f32⟩
  | 106 => ⟨S64x4x8192x2, .i1⟩
  | 107 => ⟨S_, .f32⟩
  | 108 => ⟨S64x4x8192x2, .f32⟩
  | 109 => ⟨S64x4x8192x2, .f32⟩
  | 110 => ⟨S8192x1, .i32⟩
  | 111 => ⟨S8192, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S1, .i32⟩
  | 121 => ⟨S_, .i32⟩
  | 122 => ⟨S8192x1, .i32⟩
  | 123 => ⟨S8192x1, .i1⟩
  | 124 => ⟨S1x1, .i32⟩
  | 125 => ⟨S8192x1, .i32⟩
  | 126 => ⟨S8192x1, .i1⟩
  | 127 => ⟨S8192x1, .i1⟩
  | _ => ⟨S64x4x1024x2, .f32⟩

abbrev hbmTy0_1 (i : Nat) : BufTy := match i % 128 with
  | 0 => ⟨S_, .i1⟩
  | 1 => ⟨S8192, .i1⟩
  | 2 => ⟨S64x4x8192x2, .f32⟩
  | 3 => ⟨S64x4x8192x2, .i1⟩
  | 4 => ⟨S_, .f32⟩
  | 5 => ⟨S64x4x8192x2, .f32⟩
  | 6 => ⟨S64x4x8192x2, .f32⟩
  | 7 => ⟨S8192x1, .i32⟩
  | 8 => ⟨S8192, .i32⟩
  | 9 => ⟨S_, .i32⟩
  | 10 => ⟨S8192, .i32⟩
  | 11 => ⟨S8192, .i1⟩
  | 12 => ⟨S1x1x8192x1, .i1⟩
  | 13 => ⟨S8192x1, .i32⟩
  | 14 => ⟨S8192, .i32⟩
  | 15 => ⟨S_, .i32⟩
  | 16 => ⟨S8192, .i32⟩
  | 17 => ⟨S8192, .i1⟩
  | 18 => ⟨S1x1x8192x1, .i1⟩
  | 19 => ⟨S_, .f32⟩
  | 20 => ⟨S_, .f32⟩
  | 21 => ⟨S64x4x8192x2, .i1⟩
  | 22 => ⟨S64x4x8192x2, .f32⟩
  | 23 => ⟨S64x4x8192x2, .f32⟩
  | 24 => ⟨S_, .f32⟩
  | 25 => ⟨S_, .f32⟩
  | 26 => ⟨S64x4x8192x2, .i1⟩
  | 27 => ⟨S64x4x8192x2, .f32⟩
  | 28 => ⟨S64x4x8192x2, .f32⟩
  | 29 => ⟨S_, .f32⟩
  | 30 => ⟨S_, .f32⟩
  | 31 => ⟨S64x4x8192x2, .i1⟩
  | 32 => ⟨S64x4x8192x2, .f32⟩
  | 33 => ⟨S64x4x8192x2, .f32⟩
  | 34 => ⟨S_, .f32⟩
  | 35 => ⟨S_, .f32⟩
  | 36 => ⟨S64x4x8192x2, .i1⟩
  | 37 => ⟨S64x4x8192x2, .f32⟩
  | 38 => ⟨S64x4x8192x2, .f32⟩
  | 39 => ⟨S64x4x8192x1, .f32⟩
  | 40 => ⟨S64x4x8192, .f32⟩
  | 41 => ⟨S64x4x8192x1, .f32⟩
  | 42 => ⟨S64x4x8192, .f32⟩
  | 43 => ⟨S64x4x8192, .f32⟩
  | 44 => ⟨S64x4x8192x1, .f32⟩
  | 45 => ⟨S64x4x8192x1, .f32⟩
  | 46 => ⟨S64x4x8192x2, .f32⟩
  | 47 => ⟨S64x4x8192x1, .f32⟩
  | 48 => ⟨S64x4x8192, .f32⟩
  | 49 => ⟨S64x4x8192x1, .f32⟩
  | 50 => ⟨S64x4x8192, .f32⟩
  | 51 => ⟨S64x4x8192x1, .f32⟩
  | 52 => ⟨S64x4x8192, .f32⟩
  | 53 => ⟨S64x4x8192x1, .f32⟩
  | 54 => ⟨S64x4x8192, .f32⟩
  | 55 => ⟨S64x4x8192, .f32⟩
  | 56 => ⟨S64x4x8192, .f32⟩
  | 57 => ⟨S64x4x8192, .f32⟩
  | 58 => ⟨S64x4x8192, .f32⟩
  | 59 => ⟨S64x4x8192, .f32⟩
  | 60 => ⟨S64x4x8192, .f32⟩
  | 61 => ⟨S64x4x8192x1, .f32⟩
  | 62 => ⟨S64x4x8192x1, .f32⟩
  | 63 => ⟨S64x4x8192x2, .f32⟩
  | 64 => ⟨S64x4x8192x2, .f32⟩
  | 65 => ⟨S64x4x8192x1, .f32⟩
  | 66 => ⟨S64x4x8192, .f32⟩
  | 67 => ⟨S64x4x8192x1, .f32⟩
  | 68 => ⟨S64x4x8192, .f32⟩
  | 69 => ⟨S64x4x8192, .f32⟩
  | 70 => ⟨S64x4x8192x1, .f32⟩
  | 71 => ⟨S64x4x8192x1, .f32⟩
  | 72 => ⟨S64x4x8192x2, .f32⟩
  | 73 => ⟨S64x4x8192x1, .f32⟩
  | 74 => ⟨S64x4x8192, .f32⟩
  | 75 => ⟨S64x4x8192x1, .f32⟩
  | 76 => ⟨S64x4x8192, .f32⟩
  | 77 => ⟨S64x4x8192x1, .f32⟩
  | 78 => ⟨S64x4x8192, .f32⟩
  | 79 => ⟨S64x4x8192x1, .f32⟩
  | 80 => ⟨S64x4x8192, .f32⟩
  | 81 => ⟨S64x4x8192, .f32⟩
  | 82 => ⟨S64x4x8192, .f32⟩
  | 83 => ⟨S64x4x8192, .f32⟩
  | 84 => ⟨S64x4x8192, .f32⟩
  | 85 => ⟨S64x4x8192, .f32⟩
  | 86 => ⟨S64x4x8192, .f32⟩
  | 87 => ⟨S64x4x8192x1, .f32⟩
  | 88 => ⟨S64x4x8192x1, .f32⟩
  | 89 => ⟨S64x4x8192x2, .f32⟩
  | 90 => ⟨S64x4x8192x2, .f32⟩
  | 91 => ⟨S64x4x8192x2, .f32⟩
  | 92 => ⟨S64x4x8192x2, .f32⟩
  | 93 => ⟨S1x8192x2, .i32⟩
  | 94 => ⟨S8192x2, .i32⟩
  | 95 => ⟨S1x8192x2, .i32⟩
  | 96 => ⟨S8192x2, .i32⟩
  | 97 => ⟨S8192x1, .i32⟩
  | 98 => ⟨S8192, .i32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S1, .i32⟩
  | 108 => ⟨S_, .i32⟩
  | 109 => ⟨S8192x1, .i32⟩
  | 110 => ⟨S8192x1, .i1⟩
  | 111 => ⟨S1x1, .i32⟩
  | 112 => ⟨S8192x1, .i32⟩
  | 113 => ⟨S8192x1, .i1⟩
  | 114 => ⟨S8192x1, .i1⟩
  | 115 => ⟨S_, .i1⟩
  | 116 => ⟨S8192, .i1⟩
  | 117 => ⟨S64x4x8192x2, .f32⟩
  | 118 => ⟨S64x4x8192x2, .i1⟩
  | 119 => ⟨S_, .f32⟩
  | 120 => ⟨S64x4x8192x2, .f32⟩
  | 121 => ⟨S64x4x8192x2, .f32⟩
  | 122 => ⟨S8192x1, .i32⟩
  | 123 => ⟨S8192, .i32⟩
  | 124 => ⟨S_, .i32⟩
  | 125 => ⟨S8192, .i32⟩
  | 126 => ⟨S8192, .i1⟩
  | 127 => ⟨S_, .i32⟩
  | _ => ⟨S64x4x1024x2, .f32⟩

abbrev hbmTy0_2 (i : Nat) : BufTy := match i % 128 with
  | 0 => ⟨S8192, .i32⟩
  | 1 => ⟨S8192, .i32⟩
  | 2 => ⟨S8192, .i32⟩
  | 3 => ⟨S8192x1, .i32⟩
  | 4 => ⟨S1, .i32⟩
  | 5 => ⟨S_, .i32⟩
  | 6 => ⟨S8192x1, .i32⟩
  | 7 => ⟨S8192x1, .i1⟩
  | 8 => ⟨S1x1, .i32⟩
  | 9 => ⟨S8192x1, .i32⟩
  | 10 => ⟨S8192x1, .i1⟩
  | 11 => ⟨S8192x1, .i1⟩
  | 12 => ⟨S_, .i1⟩
  | 13 => ⟨S8192, .i1⟩
  | 14 => ⟨S64x4x8192x2, .f32⟩
  | 15 => ⟨S64x4x8192x2, .i1⟩
  | 16 => ⟨S_, .f32⟩
  | 17 => ⟨S64x4x8192x2, .f32⟩
  | 18 => ⟨S64x4x8192x2, .f32⟩
  | 19 => ⟨S8192x1, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S1, .i32⟩
  | 30 => ⟨S_, .i32⟩
  | 31 => ⟨S8192x1, .i32⟩
  | 32 => ⟨S8192x1, .i1⟩
  | 33 => ⟨S1x1, .i32⟩
  | 34 => ⟨S8192x1, .i32⟩
  | 35 => ⟨S8192x1, .i1⟩
  | 36 => ⟨S8192x1, .i1⟩
  | 37 => ⟨S_, .i1⟩
  | 38 => ⟨S8192, .i1⟩
  | 39 => ⟨S64x4x8192x2, .f32⟩
  | 40 => ⟨S64x4x8192x2, .i1⟩
  | 41 => ⟨S_, .f32⟩
  | 42 => ⟨S64x4x8192x2, .f32⟩
  | 43 => ⟨S64x4x8192x2, .f32⟩
  | 44 => ⟨S8192x1, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S1, .i32⟩
  | 55 => ⟨S_, .i32⟩
  | 56 => ⟨S8192x1, .i32⟩
  | 57 => ⟨S8192x1, .i1⟩
  | 58 => ⟨S1x1, .i32⟩
  | 59 => ⟨S8192x1, .i32⟩
  | 60 => ⟨S8192x1, .i1⟩
  | 61 => ⟨S8192x1, .i1⟩
  | 62 => ⟨S_, .i1⟩
  | 63 => ⟨S8192, .i1⟩
  | 64 => ⟨S64x4x8192x2, .f32⟩
  | 65 => ⟨S64x4x8192x2, .i1⟩
  | 66 => ⟨S_, .f32⟩
  | 67 => ⟨S64x4x8192x2, .f32⟩
  | 68 => ⟨S64x4x8192x2, .f32⟩
  | 69 => ⟨S8192x1, .i32⟩
  | 70 => ⟨S8192, .i32⟩
  | 71 => ⟨S_, .i32⟩
  | 72 => ⟨S8192, .i32⟩
  | 73 => ⟨S8192, .i1⟩
  | 74 => ⟨S1x1x8192x1, .i1⟩
  | 75 => ⟨S8192x1, .i32⟩
  | 76 => ⟨S8192, .i32⟩
  | 77 => ⟨S_, .i32⟩
  | 78 => ⟨S8192, .i32⟩
  | 79 => ⟨S8192, .i1⟩
  | 80 => ⟨S1x1x8192x1, .i1⟩
  | 81 => ⟨S_, .f32⟩
  | 82 => ⟨S_, .f32⟩
  | 83 => ⟨S64x4x8192x2, .i1⟩
  | 84 => ⟨S64x4x8192x2, .f32⟩
  | 85 => ⟨S64x4x8192x2, .f32⟩
  | 86 => ⟨S_, .f32⟩
  | 87 => ⟨S_, .f32⟩
  | 88 => ⟨S64x4x8192x2, .i1⟩
  | 89 => ⟨S64x4x8192x2, .f32⟩
  | 90 => ⟨S64x4x8192x2, .f32⟩
  | 91 => ⟨S_, .f32⟩
  | 92 => ⟨S_, .f32⟩
  | 93 => ⟨S64x4x8192x2, .i1⟩
  | 94 => ⟨S64x4x8192x2, .f32⟩
  | 95 => ⟨S64x4x8192x2, .f32⟩
  | 96 => ⟨S_, .f32⟩
  | 97 => ⟨S_, .f32⟩
  | 98 => ⟨S64x4x8192x2, .i1⟩
  | 99 => ⟨S64x4x8192x2, .f32⟩
  | 100 => ⟨S64x4x8192x2, .f32⟩
  | 101 => ⟨S64x4x8192x1, .f32⟩
  | 102 => ⟨S64x4x8192, .f32⟩
  | 103 => ⟨S64x4x8192x1, .f32⟩
  | 104 => ⟨S64x4x8192, .f32⟩
  | 105 => ⟨S64x4x8192, .f32⟩
  | 106 => ⟨S64x4x8192x1, .f32⟩
  | 107 => ⟨S64x4x8192x1, .f32⟩
  | 108 => ⟨S64x4x8192x2, .f32⟩
  | 109 => ⟨S64x4x8192x1, .f32⟩
  | 110 => ⟨S64x4x8192, .f32⟩
  | 111 => ⟨S64x4x8192x1, .f32⟩
  | 112 => ⟨S64x4x8192, .f32⟩
  | 113 => ⟨S64x4x8192x1, .f32⟩
  | 114 => ⟨S64x4x8192, .f32⟩
  | 115 => ⟨S64x4x8192x1, .f32⟩
  | 116 => ⟨S64x4x8192, .f32⟩
  | 117 => ⟨S64x4x8192, .f32⟩
  | 118 => ⟨S64x4x8192, .f32⟩
  | 119 => ⟨S64x4x8192, .f32⟩
  | 120 => ⟨S64x4x8192, .f32⟩
  | 121 => ⟨S64x4x8192, .f32⟩
  | 122 => ⟨S64x4x8192, .f32⟩
  | 123 => ⟨S64x4x8192x1, .f32⟩
  | 124 => ⟨S64x4x8192x1, .f32⟩
  | 125 => ⟨S64x4x8192x2, .f32⟩
  | 126 => ⟨S64x4x8192x2, .f32⟩
  | 127 => ⟨S64x4x8192x1, .f32⟩
  | _ => ⟨S64x4x1024x2, .f32⟩

abbrev hbmTy0_3 (i : Nat) : BufTy := match i % 128 with
  | 0 => ⟨S64x4x8192, .f32⟩
  | 1 => ⟨S64x4x8192x1, .f32⟩
  | 2 => ⟨S64x4x8192, .f32⟩
  | 3 => ⟨S64x4x8192, .f32⟩
  | 4 => ⟨S64x4x8192x1, .f32⟩
  | 5 => ⟨S64x4x8192x1, .f32⟩
  | 6 => ⟨S64x4x8192x2, .f32⟩
  | 7 => ⟨S64x4x8192x1, .f32⟩
  | 8 => ⟨S64x4x8192, .f32⟩
  | 9 => ⟨S64x4x8192x1, .f32⟩
  | 10 => ⟨S64x4x8192, .f32⟩
  | 11 => ⟨S64x4x8192x1, .f32⟩
  | 12 => ⟨S64x4x8192, .f32⟩
  | 13 => ⟨S64x4x8192x1, .f32⟩
  | 14 => ⟨S64x4x8192, .f32⟩
  | 15 => ⟨S64x4x8192, .f32⟩
  | 16 => ⟨S64x4x8192, .f32⟩
  | 17 => ⟨S64x4x8192, .f32⟩
  | 18 => ⟨S64x4x8192, .f32⟩
  | 19 => ⟨S64x4x8192, .f32⟩
  | 20 => ⟨S64x4x8192, .f32⟩
  | 21 => ⟨S64x4x8192x1, .f32⟩
  | 22 => ⟨S64x4x8192x1, .f32⟩
  | 23 => ⟨S64x4x8192x2, .f32⟩
  | 24 => ⟨S64x4x8192x2, .f32⟩
  | 25 => ⟨S64x4x8192x2, .f32⟩
  | 26 => ⟨S64x4x8192x2, .f32⟩
  | 27 => ⟨S64x4x16384x2, .f32⟩
  | 28 => ⟨S64x4x5120, .f32⟩
  | 29 => ⟨S_, .f32⟩
  | 30 => ⟨S64x4, .f32⟩
  | 31 => ⟨S256, .f32⟩
  | 32 => ⟨S_, .f32⟩
  | 33 => ⟨S_, .f32⟩
  | 34 => ⟨S_, .f32⟩
  | 35 => ⟨S_, .f32⟩
  | 36 => ⟨S64x4x16384x2, .f32⟩
  | 37 => ⟨S_, .f32⟩
  | 38 => ⟨S64x4x16384, .f32⟩
  | 39 => ⟨S4194304, .f32⟩
  | 40 => ⟨S_, .f32⟩
  | 41 => ⟨S_, .f32⟩
  | 42 => ⟨S_, .f32⟩
  | 43 => ⟨S_, .f32⟩
  | _ => ⟨S64x4x1024x2, .f32⟩

abbrev hbmTy (i : Nat) : BufTy := match i / 128 with
  | 0 => hbmTy0_0 i
  | 1 => hbmTy0_1 i
  | 2 => hbmTy0_2 i
  | 3 => hbmTy0_3 i
  | _ => ⟨S64x4x1024x2, .f32⟩

abbrev bufTy : (tb : Table) → Fin (tcTables nBuf tb) → BufTy
  | .hbm, ⟨i, _⟩ => hbmTy i
  | _, _ => ⟨S64x4x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_c : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_c_0 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_cst_1 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_v46 : Ref sig .tc := ⟨.hbm, 151, rfl⟩
abbrev main_cst_2 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_v47 : Ref sig .tc := ⟨.hbm, 156, rfl⟩
abbrev main_cst_3 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v48 : Ref sig .tc := ⟨.hbm, 161, rfl⟩
abbrev main_cst_4 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_call8_c : Ref sig .tc := ⟨.hbm, 227, rfl⟩
abbrev main_call8_v0 : Ref sig .tc := ⟨.hbm, 228, rfl⟩
abbrev main_call8_v1 : Ref sig .tc := ⟨.hbm, 229, rfl⟩
abbrev main_call8_c_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_c_1 : Ref sig .tc := ⟨.hbm, 235, rfl⟩
abbrev main_call8_c_2 : Ref sig .tc := ⟨.hbm, 236, rfl⟩
abbrev main_call8_v6 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_c_3 : Ref sig .tc := ⟨.hbm, 243, rfl⟩
abbrev main_call8_v12 : Ref sig .tc := ⟨.hbm, 244, rfl⟩
abbrev main_call8_v13 : Ref sig .tc := ⟨.hbm, 245, rfl⟩
abbrev main_call8_v14 : Ref sig .tc := ⟨.hbm, 246, rfl⟩
abbrev main_call8_cst : Ref sig .tc := ⟨.hbm, 247, rfl⟩
abbrev main_call8_v15 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_call9_c : Ref sig .tc := ⟨.hbm, 252, rfl⟩
abbrev main_call9_v0 : Ref sig .tc := ⟨.hbm, 253, rfl⟩
abbrev main_call9_v1 : Ref sig .tc := ⟨.hbm, 254, rfl⟩
abbrev main_call9_c_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_c_1 : Ref sig .tc := ⟨.hbm, 260, rfl⟩
abbrev main_call9_c_2 : Ref sig .tc := ⟨.hbm, 261, rfl⟩
abbrev main_call9_v6 : Ref sig .tc := ⟨.hbm, 262, rfl⟩
abbrev main_call9_v7 : Ref sig .tc := ⟨.hbm, 263, rfl⟩
abbrev main_call9_v8 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_c_3 : Ref sig .tc := ⟨.hbm, 268, rfl⟩
abbrev main_call9_v12 : Ref sig .tc := ⟨.hbm, 269, rfl⟩
abbrev main_call9_v13 : Ref sig .tc := ⟨.hbm, 270, rfl⟩
abbrev main_call9_v14 : Ref sig .tc := ⟨.hbm, 271, rfl⟩
abbrev main_call9_cst : Ref sig .tc := ⟨.hbm, 272, rfl⟩
abbrev main_call9_v15 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_call10_c : Ref sig .tc := ⟨.hbm, 277, rfl⟩
abbrev main_call10_v0 : Ref sig .tc := ⟨.hbm, 278, rfl⟩
abbrev main_call10_v1 : Ref sig .tc := ⟨.hbm, 279, rfl⟩
abbrev main_call10_c_0 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_call10_v5 : Ref sig .tc := ⟨.hbm, 284, rfl⟩
abbrev main_call10_c_1 : Ref sig .tc := ⟨.hbm, 285, rfl⟩
abbrev main_call10_c_2 : Ref sig .tc := ⟨.hbm, 286, rfl⟩
abbrev main_call10_v6 : Ref sig .tc := ⟨.hbm, 287, rfl⟩
abbrev main_call10_v7 : Ref sig .tc := ⟨.hbm, 288, rfl⟩
abbrev main_call10_v8 : Ref sig .tc := ⟨.hbm, 289, rfl⟩
abbrev main_call10_v9 : Ref sig .tc := ⟨.hbm, 290, rfl⟩
abbrev main_call10_v10 : Ref sig .tc := ⟨.hbm, 291, rfl⟩
abbrev main_call10_v11 : Ref sig .tc := ⟨.hbm, 292, rfl⟩
abbrev main_call10_c_3 : Ref sig .tc := ⟨.hbm, 293, rfl⟩
abbrev main_call10_v12 : Ref sig .tc := ⟨.hbm, 294, rfl⟩
abbrev main_call10_v13 : Ref sig .tc := ⟨.hbm, 295, rfl⟩
abbrev main_call10_v14 : Ref sig .tc := ⟨.hbm, 296, rfl⟩
abbrev main_call10_cst : Ref sig .tc := ⟨.hbm, 297, rfl⟩
abbrev main_call10_v15 : Ref sig .tc := ⟨.hbm, 298, rfl⟩
abbrev main_v116 : Ref sig .tc := ⟨.hbm, 299, rfl⟩
abbrev main_v117 : Ref sig .tc := ⟨.hbm, 300, rfl⟩
abbrev main_v118 : Ref sig .tc := ⟨.hbm, 301, rfl⟩
abbrev main_call11_c : Ref sig .tc := ⟨.hbm, 302, rfl⟩
abbrev main_call11_v0 : Ref sig .tc := ⟨.hbm, 303, rfl⟩
abbrev main_call11_v1 : Ref sig .tc := ⟨.hbm, 304, rfl⟩
abbrev main_call11_c_0 : Ref sig .tc := ⟨.hbm, 305, rfl⟩
abbrev main_call11_v2 : Ref sig .tc := ⟨.hbm, 306, rfl⟩
abbrev main_call11_v3 : Ref sig .tc := ⟨.hbm, 307, rfl⟩
abbrev main_call11_v4 : Ref sig .tc := ⟨.hbm, 308, rfl⟩
abbrev main_call11_v5 : Ref sig .tc := ⟨.hbm, 309, rfl⟩
abbrev main_call11_c_1 : Ref sig .tc := ⟨.hbm, 310, rfl⟩
abbrev main_call11_c_2 : Ref sig .tc := ⟨.hbm, 311, rfl⟩
abbrev main_call11_v6 : Ref sig .tc := ⟨.hbm, 312, rfl⟩
abbrev main_call11_v7 : Ref sig .tc := ⟨.hbm, 313, rfl⟩
abbrev main_call11_v8 : Ref sig .tc := ⟨.hbm, 314, rfl⟩
abbrev main_call11_v9 : Ref sig .tc := ⟨.hbm, 315, rfl⟩
abbrev main_call11_v10 : Ref sig .tc := ⟨.hbm, 316, rfl⟩
abbrev main_call11_v11 : Ref sig .tc := ⟨.hbm, 317, rfl⟩
abbrev main_call11_c_3 : Ref sig .tc := ⟨.hbm, 318, rfl⟩
abbrev main_call11_v12 : Ref sig .tc := ⟨.hbm, 319, rfl⟩
abbrev main_call11_v13 : Ref sig .tc := ⟨.hbm, 320, rfl⟩
abbrev main_call11_v14 : Ref sig .tc := ⟨.hbm, 321, rfl⟩
abbrev main_call11_cst : Ref sig .tc := ⟨.hbm, 322, rfl⟩
abbrev main_call11_v15 : Ref sig .tc := ⟨.hbm, 323, rfl⟩
abbrev main_v119 : Ref sig .tc := ⟨.hbm, 324, rfl⟩
abbrev main_v120 : Ref sig .tc := ⟨.hbm, 325, rfl⟩
abbrev main_v121 : Ref sig .tc := ⟨.hbm, 326, rfl⟩
abbrev main_c_5 : Ref sig .tc := ⟨.hbm, 327, rfl⟩
abbrev main_v122 : Ref sig .tc := ⟨.hbm, 328, rfl⟩
abbrev main_v123 : Ref sig .tc := ⟨.hbm, 329, rfl⟩
abbrev main_v124 : Ref sig .tc := ⟨.hbm, 330, rfl⟩
abbrev main_v125 : Ref sig .tc := ⟨.hbm, 331, rfl⟩
abbrev main_v126 : Ref sig .tc := ⟨.hbm, 332, rfl⟩
abbrev main_c_6 : Ref sig .tc := ⟨.hbm, 333, rfl⟩
abbrev main_v127 : Ref sig .tc := ⟨.hbm, 334, rfl⟩
abbrev main_v128 : Ref sig .tc := ⟨.hbm, 335, rfl⟩
abbrev main_v129 : Ref sig .tc := ⟨.hbm, 336, rfl⟩
abbrev main_cst_7 : Ref sig .tc := ⟨.hbm, 337, rfl⟩
abbrev main_call12_v0 : Ref sig .tc := ⟨.hbm, 338, rfl⟩
abbrev main_call12_v1 : Ref sig .tc := ⟨.hbm, 339, rfl⟩
abbrev main_call12_v2 : Ref sig .tc := ⟨.hbm, 340, rfl⟩
abbrev main_v130 : Ref sig .tc := ⟨.hbm, 341, rfl⟩
abbrev main_cst_8 : Ref sig .tc := ⟨.hbm, 342, rfl⟩
abbrev main_call13_v0 : Ref sig .tc := ⟨.hbm, 343, rfl⟩
abbrev main_call13_v1 : Ref sig .tc := ⟨.hbm, 344, rfl⟩
abbrev main_call13_v2 : Ref sig .tc := ⟨.hbm, 345, rfl⟩
abbrev main_v131 : Ref sig .tc := ⟨.hbm, 346, rfl⟩
abbrev main_cst_9 : Ref sig .tc := ⟨.hbm, 347, rfl⟩
abbrev main_call14_v0 : Ref sig .tc := ⟨.hbm, 348, rfl⟩
abbrev main_call14_v1 : Ref sig .tc := ⟨.hbm, 349, rfl⟩
abbrev main_call14_v2 : Ref sig .tc := ⟨.hbm, 350, rfl⟩
abbrev main_v132 : Ref sig .tc := ⟨.hbm, 351, rfl⟩
abbrev main_cst_10 : Ref sig .tc := ⟨.hbm, 352, rfl⟩
abbrev main_call15_v0 : Ref sig .tc := ⟨.hbm, 353, rfl⟩
abbrev main_call15_v1 : Ref sig .tc := ⟨.hbm, 354, rfl⟩
abbrev main_call15_v2 : Ref sig .tc := ⟨.hbm, 355, rfl⟩
abbrev main_v133 : Ref sig .tc := ⟨.hbm, 356, rfl⟩
abbrev main_v134 : Ref sig .tc := ⟨.hbm, 357, rfl⟩
abbrev main_v135 : Ref sig .tc := ⟨.hbm, 358, rfl⟩
abbrev main_v136 : Ref sig .tc := ⟨.hbm, 359, rfl⟩
abbrev main_v137 : Ref sig .tc := ⟨.hbm, 360, rfl⟩
abbrev main_v138 : Ref sig .tc := ⟨.hbm, 361, rfl⟩
abbrev main_v139 : Ref sig .tc := ⟨.hbm, 362, rfl⟩
abbrev main_v140 : Ref sig .tc := ⟨.hbm, 363, rfl⟩
abbrev main_v141 : Ref sig .tc := ⟨.hbm, 364, rfl⟩
abbrev main_v142 : Ref sig .tc := ⟨.hbm, 365, rfl⟩
abbrev main_v143 : Ref sig .tc := ⟨.hbm, 366, rfl⟩
abbrev main_v144 : Ref sig .tc := ⟨.hbm, 367, rfl⟩
abbrev main_v145 : Ref sig .tc := ⟨.hbm, 368, rfl⟩
abbrev main_v146 : Ref sig .tc := ⟨.hbm, 369, rfl⟩
abbrev main_v147 : Ref sig .tc := ⟨.hbm, 370, rfl⟩
abbrev main_v148 : Ref sig .tc := ⟨.hbm, 371, rfl⟩
abbrev main_v149 : Ref sig .tc := ⟨.hbm, 372, rfl⟩
abbrev main_v150 : Ref sig .tc := ⟨.hbm, 373, rfl⟩
abbrev main_v151 : Ref sig .tc := ⟨.hbm, 374, rfl⟩
abbrev main_v152 : Ref sig .tc := ⟨.hbm, 375, rfl⟩
abbrev main_v153 : Ref sig .tc := ⟨.hbm, 376, rfl⟩
abbrev main_v154 : Ref sig .tc := ⟨.hbm, 377, rfl⟩
abbrev main_v155 : Ref sig .tc := ⟨.hbm, 378, rfl⟩
abbrev main_v156 : Ref sig .tc := ⟨.hbm, 379, rfl⟩
abbrev main_v157 : Ref sig .tc := ⟨.hbm, 380, rfl⟩
abbrev main_v158 : Ref sig .tc := ⟨.hbm, 381, rfl⟩
abbrev main_v159 : Ref sig .tc := ⟨.hbm, 382, rfl⟩
abbrev main_v160 : Ref sig .tc := ⟨.hbm, 383, rfl⟩
abbrev main_v161 : Ref sig .tc := ⟨.hbm, 384, rfl⟩
abbrev main_v162 : Ref sig .tc := ⟨.hbm, 385, rfl⟩
abbrev main_v163 : Ref sig .tc := ⟨.hbm, 386, rfl⟩
abbrev main_v164 : Ref sig .tc := ⟨.hbm, 387, rfl⟩
abbrev main_v165 : Ref sig .tc := ⟨.hbm, 388, rfl⟩
abbrev main_v166 : Ref sig .tc := ⟨.hbm, 389, rfl⟩
abbrev main_v167 : Ref sig .tc := ⟨.hbm, 390, rfl⟩
abbrev main_v168 : Ref sig .tc := ⟨.hbm, 391, rfl⟩
abbrev main_v169 : Ref sig .tc := ⟨.hbm, 392, rfl⟩
abbrev main_v170 : Ref sig .tc := ⟨.hbm, 393, rfl⟩
abbrev main_v171 : Ref sig .tc := ⟨.hbm, 394, rfl⟩
abbrev main_v172 : Ref sig .tc := ⟨.hbm, 395, rfl⟩
abbrev main_v173 : Ref sig .tc := ⟨.hbm, 396, rfl⟩
abbrev main_v174 : Ref sig .tc := ⟨.hbm, 397, rfl⟩
abbrev main_v175 : Ref sig .tc := ⟨.hbm, 398, rfl⟩
abbrev main_v176 : Ref sig .tc := ⟨.hbm, 399, rfl⟩
abbrev main_v177 : Ref sig .tc := ⟨.hbm, 400, rfl⟩
abbrev main_v178 : Ref sig .tc := ⟨.hbm, 401, rfl⟩
abbrev main_v179 : Ref sig .tc := ⟨.hbm, 402, rfl⟩
abbrev main_v180 : Ref sig .tc := ⟨.hbm, 403, rfl⟩
abbrev main_v181 : Ref sig .tc := ⟨.hbm, 404, rfl⟩
abbrev main_v182 : Ref sig .tc := ⟨.hbm, 405, rfl⟩
abbrev main_v183 : Ref sig .tc := ⟨.hbm, 406, rfl⟩
abbrev main_v184 : Ref sig .tc := ⟨.hbm, 407, rfl⟩
abbrev main_v185 : Ref sig .tc := ⟨.hbm, 408, rfl⟩
abbrev main_v186 : Ref sig .tc := ⟨.hbm, 409, rfl⟩
abbrev main_v187 : Ref sig .tc := ⟨.hbm, 410, rfl⟩
abbrev main_v188 : Ref sig .tc := ⟨.hbm, 411, rfl⟩
abbrev main_v189 : Ref sig .tc := ⟨.hbm, 412, rfl⟩
abbrev main_cst_11 : Ref sig .tc := ⟨.hbm, 413, rfl⟩
abbrev main_v190 : Ref sig .tc := ⟨.hbm, 414, rfl⟩
abbrev main_v191 : Ref sig .tc := ⟨.hbm, 415, rfl⟩
abbrev main_cst_12 : Ref sig .tc := ⟨.hbm, 416, rfl⟩
abbrev main_v192 : Ref sig .tc := ⟨.hbm, 417, rfl⟩
abbrev main_cst_13 : Ref sig .tc := ⟨.hbm, 418, rfl⟩
abbrev main_v193 : Ref sig .tc := ⟨.hbm, 419, rfl⟩
abbrev main_v194 : Ref sig .tc := ⟨.hbm, 420, rfl⟩
abbrev main_cst_14 : Ref sig .tc := ⟨.hbm, 421, rfl⟩
abbrev main_v195 : Ref sig .tc := ⟨.hbm, 422, rfl⟩
abbrev main_v196 : Ref sig .tc := ⟨.hbm, 423, rfl⟩
abbrev main_cst_15 : Ref sig .tc := ⟨.hbm, 424, rfl⟩
abbrev main_v197 : Ref sig .tc := ⟨.hbm, 425, rfl⟩
abbrev main_cst_16 : Ref sig .tc := ⟨.hbm, 426, rfl⟩
abbrev main_v198 : Ref sig .tc := ⟨.hbm, 427, rfl⟩

abbrev nD : Nat := 1
abbrev τ : Topo := Topo.v7x

variable {F : FTy → Type} [FloatOps F]
-- ==== Proof.Vals.lean ====
/-
  The numbers the scattering kernel computes, written lane by lane as folds over the trips of its loops, over any float
  instance. An array is read at natural-number positions (`atN`); one tile handles eight planes, and lane `l` of
  a tile's sixteen accumulates the terms whose position is `l` modulo 16.
-/
module

public import Idealize.ShloMosaic.Lib.Tactic

@[expose] public section

noncomputable section

namespace Cert.Proof.Vals

open Idealize.ShloMosaic

/-! ## Reading arrays at natural numbers -/

/-- A vector of shape `s` read at the coordinates `v`, each taken modulo its axis. -/
def atN {α : Type} {s : Shape} (hs : ∀ a, 0 < s.size a) (f : s.Idx → α) (v : Fin s.rank → ℕ) : α :=
  f fun a => ⟨v a % s.size a, Nat.mod_lt _ (hs a)⟩

/-- Reading at the coordinates of an index is reading at the index. -/
theorem atN_val {α : Type} {s : Shape} (hs : ∀ a, 0 < s.size a) (f : s.Idx → α) (x : s.Idx) (v : Fin s.rank → ℕ)
    (hv : ∀ a, v a = (x a).val) : atN hs f v = f x := by
  unfold atN
  congr 1
  funext a
  apply Fin.ext
  show v a % s.size a = (x a).val
  rw [hv a, Nat.mod_eq_of_lt (x a).isLt]

/-- A gather reads the base array at the words the index vector holds. -/
theorem loadIdx_atN {F : FTy → Type} {s t : Shape} {e : EltTy} (hs : ∀ a, 0 < s.size a) (f : Vec F s e)
    (idxs : Fin s.rank → IVec t 32) (h : ∀ a x, (idxs a x).toNat < s.size a) (x : t.Idx) :
    loadIdx f idxs h x = atN hs f fun a => (idxs a x).toNat :=
  (atN_val hs f (idxAt idxs h x) _ fun _ => rfl).symm

/-- A row of one plane squeezed to a vector keeps its positions. -/
theorem reshape_row {N : ℕ} (h : (⟨1, ![N]⟩ : Shape).numel = (⟨2, ![1, N]⟩ : Shape).numel) (x : (⟨1, ![N]⟩ : Shape).Idx) :
    ((Shape.reshapeEquiv h x) 0).val = 0 ∧ ((Shape.reshapeEquiv h x) 1).val = (x 0).val := by
  have h1 := Shape.rowMajor_reshapeEquiv h x
  rw [Shape.rowMajor_val_two, Shape.rowMajor_val_one] at h1
  have h0 : ((Shape.reshapeEquiv h x) 0).val = 0 := Nat.lt_one_iff.mp ((Shape.reshapeEquiv h x) 0).isLt
  refine ⟨h0, ?_⟩
  rw [← h1, h0, Nat.zero_mul, Nat.zero_add]

/-! ## Folds -/

variable {α : Type}

/-- `n` steps of `g`, the step numbers counted from zero. -/
def foldN (g : ℕ → α → α) : ℕ → α → α
  | 0, a => a
  | n + 1, a => g n (foldN g n a)

theorem foldN_zero (g : ℕ → α → α) (a : α) : foldN g 0 a = a := rfl
theorem foldN_succ (g : ℕ → α → α) (n : ℕ) (a : α) : foldN g (n + 1) a = g n (foldN g n a) := rfl

/-- Folds whose steps agree below `n` agree. -/
theorem foldN_congr {g g' : ℕ → α → α} : ∀ (n : ℕ) (a : α), (∀ k < n, ∀ b, g k b = g' k b) → foldN g n a = foldN g' n a
  | 0, _, _ => rfl
  | n + 1, a, h => by
    rw [foldN_succ, foldN_succ, foldN_congr n a fun k hk b => h k (by omega) b, h n (by omega)]

/-! ## The terms -/

variable {F : FTy → Type} [FloatOps F]

/-- Zero, one and two as the kernel writes them. -/
def c0 : F .f32 := Scalar.ofBits .f32 0x00000000#32
def c1 : F .f32 := Scalar.ofBits .f32 0x3F800000#32
def c2 : F .f32 := Scalar.ofBits .f32 0x40000000#32

/-- The square of a number. -/
def sq (x : F .f32) : F .f32 := FloatOps.mulf x x

/-- The finite-difference residual of the initial pair: `(t1 - i1) - (2 t0) (t0 - i0)`. -/
def hv (t0 t1 i0 i1 : F .f32) : F .f32 :=
  FloatOps.subf (FloatOps.subf t1 i1) (FloatOps.mulf (FloatOps.mulf c2 t0) (FloatOps.subf t0 i0))

/-- One trip of the first scattering loop at lane `l`. -/
def stepS1 (I T : ℕ → F .f32) (l t : ℕ) (a : F .f32) : F .f32 :=
  FloatOps.addf a (sq (hv (T (2 * (16 * t + l))) (T (2 * (16 * t + l) + 1)) (I (2 * (16 * t + l))) (I (2 * (16 * t + l) + 1))))

/-- One trip of the second scattering loop at lane `l`: the squared difference of target and input. -/
def stepS2 (I T : ℕ → F .f32) (l t : ℕ) (a : F .f32) : F .f32 :=
  FloatOps.addf a (sq (FloatOps.subf (T (16 * t + l)) (I (16 * t + l))))

/-- One plane's scattering terms at lane `l`. -/
def planeS (I1 T1 I2 T2 : ℕ → F .f32) (l : ℕ) (a : F .f32) : F .f32 :=
  foldN (stepS2 I2 T2 l) 256 (foldN (stepS1 I1 T1 l) 64 a)

/-- The scattering sum of the eight planes from `p` on, at lane `l`. -/
def tileS (I1 T1 I2 T2 : ℕ → ℕ → F .f32) (p l : ℕ) : F .f32 :=
  foldN (fun k => planeS (I1 (p + k)) (T1 (p + k)) (I2 (p + k)) (T2 (p + k)) l) 8 c0

/-- The factor 1 where both words are zero and 0 elsewhere. -/
def mask (a b : BitVec 32) : F .f32 := if a = 0#32 ∧ b = 0#32 then c1 else c0

/-- The real part of the bilinear term. -/
def er (g0 h0 g1 h1 f0 e0 f1 e1 : F .f32) : F .f32 :=
  FloatOps.subf (FloatOps.subf (FloatOps.addf (FloatOps.mulf g0 f1) (FloatOps.mulf h0 e1)) (FloatOps.mulf f0 g1))
    (FloatOps.mulf e0 h1)
/-- The imaginary part of the bilinear term. -/
def ei (g0 h0 g1 h1 f0 e0 f1 e1 : F .f32) : F .f32 :=
  FloatOps.subf (FloatOps.addf (FloatOps.subf (FloatOps.mulf h0 f1) (FloatOps.mulf g0 e1)) (FloatOps.mulf f0 h1))
    (FloatOps.mulf e0 g1)

/-- The two squares a position of the harmonic loop adds to an accumulator: `S`, `U` the chunk's two rows read at `j`
    and `j + 1`, `G` the difference row and `T` the target row read at the two pairs the words `x0`, `x1` name, `m` the
    mask's factor. -/
def addH (G T : ℕ → F .f32) (s0 u0 s1 u1 : F .f32) (x0 x1 : ℕ) (m a : F .f32) : F .f32 :=
  FloatOps.addf
    (FloatOps.addf a (sq (FloatOps.subf (FloatOps.subf s0 u0)
      (FloatOps.mulf m (er (G x0) (G (x0 + 1)) (G x1) (G (x1 + 1)) (T x0) (T (x0 + 1)) (T x1) (T (x1 + 1)))))))
    (sq (FloatOps.subf (FloatOps.subf s1 u1)
      (FloatOps.mulf m (ei (G x0) (G (x0 + 1)) (G x1) (G (x1 + 1)) (T x0) (T (x0 + 1)) (T x1) (T (x1 + 1))))))

/-- One trip of the harmonic loop at lane `l` of chunk `cn`: `xi` and `ks` the two word arrays read at the pair's
    position in the whole row, `S` and `U` the two rows read at it. -/
def stepH (G T : ℕ → F .f32) (S U : ℕ → F .f32) (xi ks : ℕ → BitVec 32) (cn l t : ℕ) (a : F .f32) : F .f32 :=
  addH G T (S (4096 * cn + 2 * (16 * t + l))) (U (4096 * cn + 2 * (16 * t + l)))
    (S (4096 * cn + (2 * (16 * t + l) + 1))) (U (4096 * cn + (2 * (16 * t + l) + 1)))
    (2 * (xi (2 * (2048 * cn + 16 * t + l))).toNat) (2 * (xi (2 * (2048 * cn + 16 * t + l) + 1)).toNat)
    (mask (ks (2 * (2048 * cn + 16 * t + l))) (ks (2 * (2048 * cn + 16 * t + l) + 1))) a

/-- One chunk of a plane's harmonic terms at lane `l`. -/
def chunkH (G T : ℕ → F .f32) (S U : ℕ → F .f32) (xi ks : ℕ → BitVec 32) (cn l : ℕ) (a : F .f32) : F .f32 :=
  foldN (stepH G T S U xi ks cn l) 128 a

/-- One plane's harmonic terms at lane `l`: `I`, `T` the plane's input and target rows. -/
def planeH (I T : ℕ → F .f32) (S U : ℕ → F .f32) (xi ks : ℕ → BitVec 32) (l : ℕ) (a : F .f32) : F .f32 :=
  foldN (fun cn => chunkH (fun j => FloatOps.subf (I j) (T j)) T S U xi ks cn l) 8 a

/-- The harmonic sum of the eight planes from `p` on, at lane `l`. -/
def tileH (I T S U : ℕ → ℕ → F .f32) (xi ks : ℕ → BitVec 32) (p l : ℕ) : F .f32 :=
  foldN (fun k => planeH (I (p + k)) (T (p + k)) (S (p + k)) (U (p + k)) xi ks l) 8 c0

end Cert.Proof.Vals
-- ==== Proof.Pre.lean ====
/-
  The precondition read: every index word is below 1024 and every scale word below 4.
-/
module

public import proofs.«01_k».proof.Defs
public import proofs.«01_k».proof.Proof.Gen.Pre_in_range
public import Idealize.ShloMosaic.Lib.ReduceAll

@[expose] public section

noncomputable section

namespace Cert.Proof.Pre

open Idealize.ShloMosaic

variable {F : FTy → Type} [FloatOps F]

/-- The conjunction of two truth bits is true when both are. -/
theorem and_bits (p q : Bool) (h : IntOp.andi (BitVec.ofBool p) (BitVec.ofBool q) = 1#1) : p = true ∧ q = true := by
  revert h; cases p <;> cases q <;> decide

/-- A word that is at least zero and less than a small bound as a signed word is less than the bound as a natural number. -/
theorem word_lt (v : BitVec 32) (n : ℕ) (hn : n < 2 ^ 31) (h : IntOp.andi (IntOp.cmpi .sge v 0#32) (IntOp.cmpi .slt v (BitVec.ofNat 32 n)) = 1#1) :
    v.toNat < n := by
  obtain ⟨h0, h1⟩ := and_bits _ _ h
  simp only [BitVec.sle_eq_decide, BitVec.slt_eq_decide, decide_eq_true_eq, BitVec.toInt_eq_toNat_cond, BitVec.toNat_ofNat] at h0 h1
  have hn' : n % 2 ^ 32 = n := Nat.mod_eq_of_lt (by omega)
  rw [hn'] at h1
  split at h1 <;> split at h1 <;> simp only [Nat.zero_mod] at h0 <;> split at h0 <;> omega

/-- What the precondition says of the two arrays of words. -/
theorem words (a0 a1 a4 a5 : Pre_in_range.S64x4x1024x2.Idx → F .f32) (a2 a6 : Pre_in_range.S64x4x4096.Idx → F .f32)
    (a3 a7 : Pre_in_range.S64x4x16384x2.Idx → F .f32) (a8 a9 : Pre_in_range.S2x8192x2.Idx → BitVec 32)
    (h : Pre_in_range.fn (F := F) a0 a1 a2 a3 a4 a5 a6 a7 a8 a9 = fun _ => 1#1) :
    (∀ i, (a8 i).toNat < 1024) ∧ ∀ i, (a9 i).toNat < 4 := by
  have e := congrFun h (fun a => a.elim0)
  obtain ⟨e8, e9⟩ := IntOp.andi_eq_one.1 e
  haveI : Subsingleton Pre_in_range.S_.Idx := ⟨fun x y => funext fun a => a.elim0⟩
  exact ⟨fun i => word_lt _ 1024 (by norm_num) (Host.reduce_andi_all _ _ _ _ _ e8 i), fun i => word_lt _ 4 (by norm_num) (Host.reduce_andi_all _ _ _ _ _ e9 i)⟩

end Cert.Proof.Pre
-- ==== Proof.KISetup.lean ====
/-
  The launch of the kernel as the SparseCore launch theorem sees it: the program's configuration, the resource algebra
  and the names of the arrays and scratches a task works on.
-/
module

public import proofs.«01_k».proof.Defs
public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are the launch's own, and the scratches are not shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) := embL

instance EH_landsIn : (EH : Emb UH 𝕄).LandsIn (upEmb : UEmb _ 𝕄) := by unfold EH; infer_instance

/-! ## The task's thread, arrays and scratches -/

/-- The core and the subcore of a grid coordinate, and the thread that runs it. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable [FloatOps F]

abbrev w2 : Memref sig .scVector .hbm S256x2048 .f32 := Memref.whole main_v0_scv
abbrev w3 : Memref sig .scVector .hbm S256x2048 .f32 := Memref.whole main_v1_scv
abbrev w4 : Memref sig .scVector .hbm S256x32768 .f32 := Memref.whole main_v2_scv
abbrev w5 : Memref sig .scVector .hbm S256x32768 .f32 := Memref.whole main_v3_scv
abbrev w6 : Memref sig .scVector .hbm S32768 .i32 := Memref.whole main_v4_scv
abbrev w7 : Memref sig .scVector .hbm S32768 .i32 := Memref.whole main_v5_scv
abbrev w8 : Memref sig .scVector .hbm S256x2048 .f32 := Memref.whole main_v6_scv
abbrev w9 : Memref sig .scVector .hbm S256x2048 .f32 := Memref.whole main_v7_scv
abbrev w10 : Memref sig .scVector .hbm S256x4096 .f32 := Memref.whole main_v8_scv
abbrev w11 : Memref sig .scVector .hbm S256x4096 .f32 := Memref.whole main_v9_scv
abbrev w12 : Memref sig .scVector .hbm S32x16 .f32 := Memref.whole main_v10_0_scv
abbrev w13 : Memref sig .scVector .hbm S32x16 .f32 := Memref.whole main_v10_1_scv
abbrev w14 : Memref sig .scVector .vmem S2048 .f32 := Memref.whole cc0_scratch0
abbrev w15 : Memref sig .scVector .vmem S2048 .f32 := Memref.whole cc0_scratch1
abbrev w16 : Memref sig .scVector .vmem S2048 .f32 := Memref.whole cc0_scratch2
abbrev w17 : Memref sig .scVector .vmem S4096 .f32 := Memref.whole cc0_scratch3
abbrev w18 : Memref sig .scVector .vmem S4096 .f32 := Memref.whole cc0_scratch4
abbrev w19 : Memref sig .scVector .vmem S32768 .i32 := Memref.whole cc0_scratch5
abbrev w20 : Memref sig .scVector .vmem S32768 .i32 := Memref.whole cc0_scratch6
abbrev w21 : Memref sig .scVector .vmem S16 .f32 := Memref.whole cc0_scratch7
abbrev w22 : Memref sig .scVector .vmem S16 .f32 := Memref.whole cc0_scratch8

/-- The lane numbers. -/
abbrev lanes : IVec S16 32 := iota .scVector S16 32 [0] iota_S16_d0_w32_scVector

theorem pos2048 : ∀ a, 0 < S2048.size a := by decide
theorem pos4096 : ∀ a, 0 < S4096.size a := by decide
theorem pos32768 : ∀ a, 0 < S32768.size a := by decide
theorem posP2048 : ∀ a, 0 < S256x2048.size a := by decide
theorem posP4096 : ∀ a, 0 < S256x4096.size a := by decide
theorem posP32768 : ∀ a, 0 < S256x32768.size a := by decide

/-- The scratches read at a natural number. -/
abbrev r2048 (f : S2048.Idx → F .f32) (j : ℕ) : F .f32 := atN pos2048 f fun _ => j
abbrev r4096 (f : S4096.Idx → F .f32) (j : ℕ) : F .f32 := atN pos4096 f fun _ => j
abbrev r32768 (f : S32768.Idx → BitVec 32) (j : ℕ) : BitVec 32 := atN pos32768 f fun _ => j
/-- The arrays of planes read at a plane and a position. -/
abbrev p2048 (f : S256x2048.Idx → F .f32) (p j : ℕ) : F .f32 := atN posP2048 f ![p, j]
abbrev p4096 (f : S256x4096.Idx → F .f32) (p j : ℕ) : F .f32 := atN posP4096 f ![p, j]
abbrev p32768 (f : S256x32768.Idx → F .f32) (p j : ℕ) : F .f32 := atN posP32768 f ![p, j]

end Cert.Proof.KI
-- ==== Proof.KILoopsS.lean ====
/-
  The two loops of a task's scattering part, trip by trip: what each trip adds to the sixteen accumulators, from the
  two row scratches it reads.
-/
module

public import proofs.«01_k».proof.Proof.KISetup

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The regions of the two loops at the launch's arguments. -/
abbrev t2B (L : grid0.Coords) (v1 e0 e1 : BitVec 32) (t1 : Fin k0_t1_loop.trips) (a : FVec F S16 .f32) :=
  k0_t2_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11 v1 lanes e0 e1 t1 a
abbrev t3B (L : grid0.Coords) :=
  k0_t3_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11

theorem lt64 (k : Fin k0_t2_loop.trips) : k.val < 64 := lt_of_lt_of_le k.isLt k0_t2_abs.2.1
theorem lt256 (k : Fin k0_t3_loop.trips) : k.val < 256 := lt_of_lt_of_le k.isLt k0_t3_abs.2.1

/-- The words a trip of the first loop gathers at: twice the lane's position. -/
theorem pay9_val (k : Fin k0_t2_loop.trips) (x : S16.Idx) : (k0_pay9 lanes k x).toNat = 2 * (16 * k.val + (x 0).val) := by
  have hk := lt64 k
  have hx : (x 0).val < 16 := (x 0).isLt
  simp [k0_pay9, muli, addi, broadcast, iota, Scalar.muli, IntOp.muli, IntOp.addi, Scf.iv]
  omega
theorem pay10_val (v : IVec S16 32) (x : S16.Idx) (h : (v x).toNat + 1 < 2 ^ 32) : (k0_pay10 v x).toNat = (v x).toNat + 1 := by
  simp [k0_pay10, addi, broadcast, IntOp.addi]
  omega
theorem pay11_val (v : IVec S16 32) (x : S16.Idx) (h : (v x).toNat + 1 < 2 ^ 32) : (k0_pay11 v x).toNat = (v x).toNat + 1 :=
  pay10_val v x h

/-- A gather out of a whole scratch reads it at the words of the index vector. -/
theorem gather17 (f : S4096.Idx → F .f32) (v : IVec S16 32) (h) (x : S16.Idx) :
    loadIdx (F := F) (e := .f32) (View.read (Elt F) (w17.access (.whole S4096)) f) ![v] h x = r4096 f (v x).toNat := by
  rw [loadIdx_atN pos4096, show View.read (Elt F) (w17.access (.whole S4096)) f = f from ?_]
  · exact congrArg (atN pos4096 f) (funext fun a => by obtain rfl : a = 0 := Subsingleton.elim _ _; rfl)
  · exact (Memref.read_access_whole (Elt F) cc0_scratch3 f)
theorem gather18 (f : S4096.Idx → F .f32) (v : IVec S16 32) (h) (x : S16.Idx) :
    loadIdx (F := F) (e := .f32) (View.read (Elt F) (w18.access (.whole S4096)) f) ![v] h x = r4096 f (v x).toNat :=
  gather17 f v h x

/-- A trip of the first loop adds the squared residual at the lanes' positions. -/
theorem t2_step (d : Dev nD) (L : grid0.Coords) (v1 e0 e1 : BitVec 32) (t1 : Fin k0_t1_loop.trips) (a0 : FVec F S16 .f32)
    (I T : S4096.Idx → F .f32) (k : Fin k0_t2_loop.trips) (acc : FVec F S16 .f32) :
    iprop((w17.view.loc (thr d L) ↦{fullShare} I) ∗ (w18.view.loc (thr d L) ↦{fullShare} T))
      ⊢ wp (M := 𝕄) frame (wpE (defs₀ (F := F)) 𝒱₀ (thr d L) none) Set.univ (t2B L v1 e0 e1 t1 a0 k acc)
        fun a => iprop(⌜a = fun x => stepS1 (r4096 I) (r4096 T) (x 0).val k.val (acc x)⌝
          ∗ (w17.view.loc (thr d L) ↦{fullShare} I) ∗ (w18.view.loc (thr d L) ↦{fullShare} T)) := by
  have hk := lt64 k
  have h9 : ∀ x, (k0_pay9 lanes k x).toNat = 2 * (16 * k.val + (x 0).val) := pay9_val k
  have h10 : ∀ x, (k0_pay10 (k0_pay9 lanes k) x).toNat = 2 * (16 * k.val + (x 0).val) + 1 := fun x => by
    have hx : (x 0).val < 16 := (x 0).isLt
    rw [pay10_val _ _ (by rw [h9]; omega), h9]
  have h11 : ∀ x, (k0_pay11 (k0_pay9 lanes k) x).toNat = 2 * (16 * k.val + (x 0).val) + 1 := h10
  have hc1 : k0_chk1 (k0_pay9 lanes k) := by
    have : ∀ a x, ((![k0_pay9 lanes k] : Fin 1 → IVec S16 32) a x).toNat < S4096.size a := fun a x => by
      obtain rfl : a = 0 := Subsingleton.elim _ _
      have hx : (x 0).val < 16 := (x 0).isLt
      show (k0_pay9 lanes k x).toNat < 4096
      rw [h9]; omega
    exact ⟨this, this⟩
  have hc2 : k0_chk2 (k0_pay10 (k0_pay9 lanes k)) := fun a x => by
    obtain rfl : a = 0 := Subsingleton.elim _ _
    have hx : (x 0).val < 16 := (x 0).isLt
    show (k0_pay10 (k0_pay9 lanes k) x).toNat < 4096
    rw [h10]; omega
  have hc3 : k0_chk3 (k0_pay11 (k0_pay9 lanes k)) := hc2
  unfold t2B k0_t2_body
  simp only [Prog.lift, Prog.bind_op, Prog.bind_ret, Prog.pure_eq_ret]
  iintro ⟨HI, HT⟩
  rw [wp_assume_of _ _ _ _ hc1]
  iapply (SparseCore.wp_vectorLoadIdx 𝒱₀ (thr d L) none Set.univ (base := w18) (S := Finset.univ) (q := fullShare) (Finset.subset_univ _)) $$ HT
  iintro HT
  rw [wp_assume_of _ _ _ _ hc2]
  iapply (SparseCore.wp_vectorLoadIdx 𝒱₀ (thr d L) none Set.univ (base := w18) (S := Finset.univ) (q := fullShare) (Finset.subset_univ _)) $$ HT
  iintro HT
  iapply (SparseCore.wp_vectorLoadIdx 𝒱₀ (thr d L) none Set.univ (base := w17) (S := Finset.univ) (q := fullShare) (Finset.subset_univ _)) $$ HI
  iintro HI
  rw [wp_assume_of _ _ _ _ hc3]
  iapply (SparseCore.wp_vectorLoadIdx 𝒱₀ (thr d L) none Set.univ (base := w17) (S := Finset.univ) (q := fullShare) (Finset.subset_univ _)) $$ HI
  iintro HI
  rw [wp_ret]
  imodintro
  isplitr
  · ipureintro
    funext x
    simp only [k0_pay12, addf, subf, mulf, broadcast, gather17, gather18, h9, h10, h11]
    rfl
  isplitl [HI]
  · iexact HI
  · iexact HT

theorem off3_read (f : S4096.Idx → F .f32) (k : Fin k0_t3_loop.trips) (x : S16.Idx) :
    w17.view.readAt (Elt F) (Rect.unit (s := S4096) (k0_off3 k) S16.size (k0_off3_inb k)).toLoadRect f x
      = r4096 f (16 * k.val + (x 0).val) := by
  refine (atN_val pos4096 f _ _ fun a => ?_).symm
  obtain rfl : a = 0 := Subsingleton.elim _ _
  show 16 * k.val + (x 0).val = k0_off3 k 0 + 1 * (x 0).val
  rw [k0_off3_eq, one_mul]
  rfl

/-- A trip of the second loop adds the squared difference at the lanes' positions. -/
theorem t3_step (d : Dev nD) (L : grid0.Coords)
    (I T : S4096.Idx → F .f32) (k : Fin k0_t3_loop.trips) (acc : FVec F S16 .f32) :
    iprop((w17.view.loc (thr d L) ↦{fullShare} I) ∗ (w18.view.loc (thr d L) ↦{fullShare} T))
      ⊢ wp (M := 𝕄) frame (wpE (defs₀ (F := F)) 𝒱₀ (thr d L) none) Set.univ (t3B L k acc)
        fun a => iprop(⌜a = fun x => stepS2 (r4096 I) (r4096 T) (x 0).val k.val (acc x)⌝
          ∗ (w17.view.loc (thr d L) ↦{fullShare} I) ∗ (w18.view.loc (thr d L) ↦{fullShare} T)) := by
  unfold t3B k0_t3_body
  iintro ⟨HI, HT⟩
  sl_exec
  rw [wp_ret]
  imodintro
  isplitr
  · ipureintro
    funext x
    simp only [k0_pay2, addf, subf, mulf]
    rw [off3_read, show View.readAt (Elt F) w18.view (Rect.unit (s := S4096) (k0_off3 k) S16.size (k0_off3_inb k)).toLoadRect T x = _
      from off3_read T k x]
    rfl
  isplitl [HI]
  · iexact HI
  · iexact HT

end Cert.Proof.KI
-- ==== Proof.KILoopsH.lean ====
/-
  The loops of a task's harmonic part, trip by trip: the difference row a plane prepares, and what each trip of the
  gathering loop adds to the sixteen accumulators.
-/
module

public import proofs.«01_k».proof.Proof.KILoopsS

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The regions of the two loops at the launch's arguments. -/
abbrev t5B (L : grid0.Coords) :=
  k0_t5_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11
abbrev t7B (L : grid0.Coords) (v : BitVec 32) :=
  k0_t7_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11 lanes v

theorem lt128 (k : Fin k0_t5_loop.trips) : k.val < 128 := lt_of_lt_of_le k.isLt k0_t5_abs.2.1
theorem lt128' (k : Fin k0_t7_loop.trips) : k.val < 128 := lt_of_lt_of_le k.isLt k0_t7_abs.2.1
theorem lt8 (k : Fin k0_t6_loop.trips) : k.val < 8 := lt_of_lt_of_le k.isLt k0_t6_abs.2.1

/-- The row scratches gathered at the words of an index vector. -/
theorem gather15 (f : S2048.Idx → F .f32) (v : IVec S16 32) (h) (x : S16.Idx) :
    loadIdx (F := F) (e := .f32) (View.read (Elt F) (w15.access (.whole S2048)) f) ![v] h x = r2048 f (v x).toNat := by
  rw [loadIdx_atN pos2048, show View.read (Elt F) (w15.access (.whole S2048)) f = f from ?_]
  · exact congrArg (atN pos2048 f) (funext fun a => by obtain rfl : a = 0 := Subsingleton.elim _ _; rfl)
  · exact (Memref.read_access_whole (Elt F) cc0_scratch1 f)
theorem gather16 (f : S2048.Idx → F .f32) (v : IVec S16 32) (h) (x : S16.Idx) :
    loadIdx (F := F) (e := .f32) (View.read (Elt F) (w16.access (.whole S2048)) f) ![v] h x = r2048 f (v x).toNat :=
  gather15 f v h x
/-- The word scratches gathered at the words of an index vector. -/
theorem gather19 (f : S32768.Idx → BitVec 32) (v : IVec S16 32) (h) (x : S16.Idx) :
    loadIdx (F := F) (e := .i32) (View.read (Elt F) (w19.access (.whole S32768)) f) ![v] h x = r32768 f (v x).toNat := by
  rw [loadIdx_atN pos32768, show View.read (Elt F) (w19.access (.whole S32768)) f = f from ?_]
  · exact congrArg (atN pos32768 f) (funext fun a => by obtain rfl : a = 0 := Subsingleton.elim _ _; rfl)
  · exact (Memref.read_access_whole (Elt F) cc0_scratch5 f)
theorem gather20 (f : S32768.Idx → BitVec 32) (v : IVec S16 32) (h) (x : S16.Idx) :
    loadIdx (F := F) (e := .i32) (View.read (Elt F) (w20.access (.whole S32768)) f) ![v] h x = r32768 f (v x).toNat :=
  gather19 f v h x

/-- The words the harmonic loop gathers at. -/
theorem pay13_val (k : Fin k0_t7_loop.trips) (n : Fin k0_t6_loop.trips) (x : S16.Idx) :
    (k0_pay13 lanes (Scalar.muli (Scf.iv 0#32 1#32 n) 2048#32) 0#32 1#32 k x).toNat
      = 2 * (2048 * n.val + 16 * k.val + (x 0).val) := by
  have hk := lt128' k
  have hn := lt8 n
  have hx : (x 0).val < 16 := (x 0).isLt
  simp [k0_pay13, muli, addi, broadcast, iota, Scalar.muli, Scalar.addi, IntOp.muli, IntOp.addi, Scf.iv]
  omega
theorem pay5_val (k : Fin k0_t7_loop.trips) (x : S16.Idx) :
    (k0_pay5 (Scf.iv 0#32 1#32 k) x).toNat = 2 * (16 * k.val + (x 0).val) := by
  have hk := lt128' k
  have hx : (x 0).val < 16 := (x 0).isLt
  simp [k0_pay5, muli, addi, broadcast, iota, Scalar.muli, IntOp.muli, IntOp.addi, Scf.iv]
  omega
/-- The next word. -/
theorem pay14_val (v : IVec S16 32) (x : S16.Idx) (h : (v x).toNat + 1 < 2 ^ 32) : (k0_pay14 v x).toNat = (v x).toNat + 1 := by
  simp [k0_pay14, addi, broadcast, IntOp.addi]
  omega
/-- Twice a word below 1024. -/
theorem pay17_val (v : IVec S16 32) (x : S16.Idx) (h : (v x).toNat < 1024) : (k0_pay17 (F := F) v x).toNat = 2 * (v x).toNat := by
  simp [k0_pay17, muli, broadcast, IntOp.muli]
  omega
/-- The mask's factor. -/
theorem pay16_val (a b : IVec S16 32) (x : S16.Idx) : k0_pay16 (F := F) a b x = mask (a x) (b x) := by
  simp only [k0_pay16, select, broadcast, andi, cmpi, mask, c0, c1, Scalar.select, IntOp.andi, IntOp.cmpi]
  by_cases ha : a x = 0#32 <;> by_cases hb : b x = 0#32 <;>
    simp [ha, hb, beq_eq_false_iff_ne.mpr, beq_iff_eq]

theorem off5_idx (k : Fin k0_t5_loop.trips) (x : S16.Idx) :
    (((Rect.unit (s := S2048) (k0_off5 k) S16.size (k0_off5_inb k)).idx x) 0).val = 16 * k.val + (x 0).val := by
  show k0_off5 k 0 + 1 * (x 0).val = _
  rw [k0_off5_eq, one_mul]
  rfl
theorem off5_read (f : S2048.Idx → F .f32) (k : Fin k0_t5_loop.trips) (x : S16.Idx) :
    w14.view.readAt (Elt F) (Rect.unit (s := S2048) (k0_off5 k) S16.size (k0_off5_inb k)).toLoadRect f x
      = r2048 f (16 * k.val + (x 0).val) := by
  refine (atN_val pos2048 f _ _ fun a => ?_).symm
  obtain rfl : a = 0 := Subsingleton.elim _ _
  exact (off5_idx k x).symm

/-- A trip of the difference loop writes sixteen more differences. -/
theorem t5_step (d : Dev nD) (L : grid0.Coords) (I T : S2048.Idx → F .f32) (k : Fin k0_t5_loop.trips) (u : Unit) :
    iprop((w14.view.loc (thr d L) ↦{fullShare} I) ∗ (w15.view.loc (thr d L) ↦{fullShare} T)
        ∗ ∃ G : S2048.Idx → F .f32, ⌜∀ i : S2048.Idx, (i 0).val < 16 * k.val → G i = FloatOps.subf (I i) (T i)⌝
          ∗ (w16.view.loc (thr d L) ↦{fullShare} G))
      ⊢ wp (M := 𝕄) frame (wpE (defs₀ (F := F)) 𝒱₀ (thr d L) none) Set.univ (t5B L k u)
        fun _ => iprop((w14.view.loc (thr d L) ↦{fullShare} I) ∗ (w15.view.loc (thr d L) ↦{fullShare} T)
        ∗ ∃ G : S2048.Idx → F .f32, ⌜∀ i : S2048.Idx, (i 0).val < 16 * (k.val + 1) → G i = FloatOps.subf (I i) (T i)⌝
          ∗ (w16.view.loc (thr d L) ↦{fullShare} G)) := by
  unfold t5B k0_t5_body
  iintro ⟨HI, HT, %G, %hG, HG⟩
  sl_exec
  rw [wp_ret]
  imodintro
  isplitl [HI]
  · iexact HI
  isplitl [HT]
  · iexact HT
  iexists _
  isplitr
  rotate_left
  · iexact HG
  ipureintro
  intro i hi
  rw [View.writes_singleton]
  by_cases h : (i 0).val < 16 * k.val
  · rw [View.write_of_not_mem, hG i h]
    intro hmem
    obtain ⟨x, -, hx⟩ := Finset.mem_map.mp hmem
    have h0 : (((Rect.unit (s := S2048) (k0_off5 k) S16.size (k0_off5_inb k)).idx x) 0).val = (i 0).val :=
      congrArg (fun z : S2048.Idx => (z 0).val) hx
    rw [off5_idx] at h0
    omega
  · let x : S16.Idx := fun a => ⟨(i 0).val - 16 * k.val, by obtain rfl : a = 0 := Subsingleton.elim _ _; show _ < 16; omega⟩
    have hx : (Rect.unit (s := S2048) (k0_off5 k) S16.size (k0_off5_inb k)).idx x = i := by
      funext a
      obtain rfl : a = 0 := Subsingleton.elim _ _
      apply Fin.ext
      rw [off5_idx]
      show 16 * k.val + ((i 0).val - 16 * k.val) = _
      omega
    have he : (w16.view.slice (Rect.unit (s := S2048) (k0_off5 k) S16.size (k0_off5_inb k))).emb x = i := hx
    rw [← he, View.write_emb_of_mem _ _ (Finset.mem_univ _)]
    rfl

/-- A trip of the harmonic loop adds the two squares at the lanes' positions. -/
theorem t7_step (d : Dev nD) (L : grid0.Coords) (n : Fin k0_t6_loop.trips) (T G : S2048.Idx → F .f32)
    (A U : S4096.Idx → F .f32) (xi ks : S32768.Idx → BitVec 32) (hxi : ∀ j, (xi j).toNat < 1024)
    (k : Fin k0_t7_loop.trips) (acc : FVec F S16 .f32) :
    iprop((w15.view.loc (thr d L) ↦{fullShare} T) ∗ (w16.view.loc (thr d L) ↦{fullShare} G)
        ∗ (w17.view.loc (thr d L) ↦{fullShare} A) ∗ (w18.view.loc (thr d L) ↦{fullShare} U)
        ∗ (w19.view.loc (thr d L) ↦{fullShare} xi) ∗ (w20.view.loc (thr d L) ↦{fullShare} ks))
      ⊢ wp (M := 𝕄) frame (wpE (defs₀ (F := F)) 𝒱₀ (thr d L) none) Set.univ
          (t7B L (Scalar.muli (Scf.iv 0#32 1#32 n) 2048#32) k acc)
        fun a => iprop(⌜a = fun x => addH (r2048 G) (r2048 T) (r4096 A (2 * (16 * k.val + (x 0).val)))
              (r4096 U (2 * (16 * k.val + (x 0).val))) (r4096 A (2 * (16 * k.val + (x 0).val) + 1))
              (r4096 U (2 * (16 * k.val + (x 0).val) + 1))
              (2 * (r32768 xi (2 * (2048 * n.val + 16 * k.val + (x 0).val))).toNat)
              (2 * (r32768 xi (2 * (2048 * n.val + 16 * k.val + (x 0).val) + 1)).toNat)
              (mask (r32768 ks (2 * (2048 * n.val + 16 * k.val + (x 0).val)))
                (r32768 ks (2 * (2048 * n.val + 16 * k.val + (x 0).val) + 1))) (acc x)⌝
          ∗ (w15.view.loc (thr d L) ↦{fullShare} T) ∗ (w16.view.loc (thr d L) ↦{fullShare} G)
          ∗ (w17.view.loc (thr d L) ↦{fullShare} A) ∗ (w18.view.loc (thr d L) ↦{fullShare} U)
          ∗ (w19.view.loc (thr d L) ↦{fullShare} xi) ∗ (w20.view.loc (thr d L) ↦{fullShare} ks)) := by
  have hk := lt128' k
  have hn := lt8 n
  have hx : ∀ x : S16.Idx, (x 0).val < 16 := fun x => (x 0).isLt
  -- one vector of words below a bound passes its check
  have chk1 : ∀ {N : ℕ} (v : IVec S16 32), (∀ x, (v x).toNat < N) →
      ∀ (a : Fin 1) x, ((![v] : Fin 1 → IVec S16 32) a x).toNat < (![N] : Fin 1 → ℕ) a := fun v h a x => by
    obtain rfl : a = 0 := Subsingleton.elim _ _
    exact h x
  -- the words the trip computes
  have h24 : ∀ x, ((k0_pay13 lanes (Scalar.muli (Scf.iv 0#32 1#32 n) 2048#32) 0#32 1#32 k) x).toNat = 2 * (2048 * n.val + 16 * k.val + (x 0).val) := pay13_val k n
  have h27 : ∀ x, (k0_pay14 (k0_pay13 lanes (Scalar.muli (Scf.iv 0#32 1#32 n) 2048#32) 0#32 1#32 k) x).toNat = 2 * (2048 * n.val + 16 * k.val + (x 0).val) + 1 := fun x => by
    have := hx x
    rw [pay14_val _ _ (by rw [h24]; omega), h24]
  have h31 : ∀ x, (k0_pay15 (k0_pay13 lanes (Scalar.muli (Scf.iv 0#32 1#32 n) 2048#32) 0#32 1#32 k) x).toNat = 2 * (2048 * n.val + 16 * k.val + (x 0).val) + 1 := h27
  have h79 : ∀ x, (k0_pay5 (Scf.iv 0#32 1#32 k) x).toNat = 2 * (16 * k.val + (x 0).val) := pay5_val k
  have h84 : ∀ x, (k0_pay6 (k0_pay5 (Scf.iv 0#32 1#32 k)) x).toNat = 2 * (16 * k.val + (x 0).val) + 1 := fun x => by
    have := hx x
    rw [show k0_pay6 (k0_pay5 (Scf.iv 0#32 1#32 k)) x = k0_pay14 (k0_pay5 (Scf.iv 0#32 1#32 k)) x from rfl,
      pay14_val _ _ (by rw [h79]; omega), h79]
  have h87 : ∀ x, (k0_pay7 (k0_pay5 (Scf.iv 0#32 1#32 k)) x).toNat = 2 * (16 * k.val + (x 0).val) + 1 := h84
  have b24 : ∀ x, ((k0_pay13 lanes (Scalar.muli (Scf.iv 0#32 1#32 n) 2048#32) 0#32 1#32 k) x).toNat < 32768 := fun x => by have := hx x; rw [h24]; omega
  have b27 : ∀ x, (k0_pay14 (k0_pay13 lanes (Scalar.muli (Scf.iv 0#32 1#32 n) 2048#32) 0#32 1#32 k) x).toNat < 32768 := fun x => by have := hx x; rw [h27]; omega
  have b79 : ∀ x, (k0_pay5 (Scf.iv 0#32 1#32 k) x).toNat < 4096 := fun x => by have := hx x; rw [h79]; omega
  have b84 : ∀ x, (k0_pay6 (k0_pay5 (Scf.iv 0#32 1#32 k)) x).toNat < 4096 := fun x => by have := hx x; rw [h84]; omega
  -- the words it gathers out of the first word scratch, and those of the pairs they name
  set v25 : IVec S16 32 := fun x => r32768 xi ((k0_pay13 lanes (Scalar.muli (Scf.iv 0#32 1#32 n) 2048#32) 0#32 1#32 k) x).toNat with hv25
  set v28 : IVec S16 32 := fun x => r32768 xi (k0_pay14 (k0_pay13 lanes (Scalar.muli (Scf.iv 0#32 1#32 n) 2048#32) 0#32 1#32 k) x).toNat with hv28
  have g25 : ∀ h, loadIdx (F := F) (e := .i32) (View.read (Elt F) (w19.access (.whole S32768)) xi) ![(k0_pay13 lanes (Scalar.muli (Scf.iv 0#32 1#32 n) 2048#32) 0#32 1#32 k)] h = v25 :=
    fun h => funext fun x => gather19 xi (k0_pay13 lanes (Scalar.muli (Scf.iv 0#32 1#32 n) 2048#32) 0#32 1#32 k) h x
  have g28 : ∀ h, loadIdx (F := F) (e := .i32) (View.read (Elt F) (w19.access (.whole S32768)) xi) ![k0_pay14 (k0_pay13 lanes (Scalar.muli (Scf.iv 0#32 1#32 n) 2048#32) 0#32 1#32 k)] h = v28 :=
    fun h => funext fun x => gather19 xi _ h x
  have l25 : ∀ x, (v25 x).toNat < 1024 := fun x => hxi _
  have l28 : ∀ x, (v28 x).toNat < 1024 := fun x => hxi _
  have h42 : ∀ x, (k0_pay17 (F := F) v25 x).toNat = 2 * (v25 x).toNat := fun x => pay17_val (F := F) v25 x (l25 x)
  have h44 : ∀ x, (k0_pay18 (F := F) v28 x).toNat = 2 * (v28 x).toNat := fun x => pay17_val (F := F) v28 x (l28 x)
  have b42 : ∀ x, (k0_pay17 (F := F) v25 x).toNat < 2048 := fun x => by have := l25 x; rw [h42]; omega
  have b44 : ∀ x, (k0_pay18 (F := F) v28 x).toNat < 2048 := fun x => by have := l28 x; rw [h44]; omega
  have h47 : ∀ x, (k0_pay19 (k0_pay17 (F := F) v25) x).toNat = 2 * (v25 x).toNat + 1 := fun x => by
    have := l25 x
    rw [show k0_pay19 (k0_pay17 (F := F) v25) x = k0_pay14 (k0_pay17 (F := F) v25) x from rfl, pay14_val _ _ (by rw [h42]; omega), h42]
  have h51 : ∀ x, (k0_pay20 (k0_pay18 (F := F) v28) x).toNat = 2 * (v28 x).toNat + 1 := fun x => by
    have := l28 x
    rw [show k0_pay20 (k0_pay18 (F := F) v28) x = k0_pay14 (k0_pay18 (F := F) v28) x from rfl, pay14_val _ _ (by rw [h44]; omega), h44]
  have h55 : ∀ x, (k0_pay21 (k0_pay17 (F := F) v25) x).toNat = 2 * (v25 x).toNat + 1 := h47
  have h59 : ∀ x, (k0_pay4 (k0_pay18 (F := F) v28) x).toNat = 2 * (v28 x).toNat + 1 := h51
  have b47 : ∀ x, (k0_pay19 (k0_pay17 (F := F) v25) x).toNat < 2048 := fun x => by have := l25 x; rw [h47]; omega
  have b51 : ∀ x, (k0_pay20 (k0_pay18 (F := F) v28) x).toNat < 2048 := fun x => by have := l28 x; rw [h51]; omega
  have hc7 : k0_chk7 (k0_pay17 (F := F) v25) := ⟨chk1 _ b42, chk1 _ b42⟩
  have hc9 : k0_chk9 (k0_pay18 (F := F) v28) := ⟨chk1 _ b44, chk1 _ b44⟩
  have hc8 : k0_chk8 (k0_pay19 (k0_pay17 (F := F) v25)) := chk1 _ b47
  have hc10 : k0_chk10 (k0_pay20 (k0_pay18 (F := F) v28)) := chk1 _ b51
  have hc11 : k0_chk11 (k0_pay21 (k0_pay17 (F := F) v25)) := chk1 _ b47
  have hc12 : k0_chk12 (k0_pay4 (k0_pay18 (F := F) v28)) := chk1 _ b51
  unfold t7B k0_t7_body
  rw [k0_part2_eq_skeleton]
  unfold k0_part2_skel
  simp only [Prog.lift, Prog.bind_op, Prog.bind_ret, Prog.pure_eq_ret]
  iintro ⟨HT, HG, HA, HU, Hxi, Hks⟩
  rw [wp_assume_of _ _ _ _ (show k0_chk4 (k0_pay13 lanes (Scalar.muli (Scf.iv 0#32 1#32 n) 2048#32) 0#32 1#32 k) from ⟨chk1 (k0_pay13 lanes (Scalar.muli (Scf.iv 0#32 1#32 n) 2048#32) 0#32 1#32 k) b24, chk1 (k0_pay13 lanes (Scalar.muli (Scf.iv 0#32 1#32 n) 2048#32) 0#32 1#32 k) b24⟩)]
  rw [wp_bind]
  iapply (SparseCore.wp_vectorLoadIdx 𝒱₀ (thr d L) none Set.univ (base := w19) (S := Finset.univ) (q := fullShare) (Finset.subset_univ _)) $$ Hxi
  iintro Hxi
  rw [g25]
  rw [wp_assume_of _ _ _ _ (show k0_chk5 (k0_pay14 (k0_pay13 lanes (Scalar.muli (Scf.iv 0#32 1#32 n) 2048#32) 0#32 1#32 k)) from chk1 _ b27)]
  iapply (SparseCore.wp_vectorLoadIdx 𝒱₀ (thr d L) none Set.univ (base := w19) (S := Finset.univ) (q := fullShare) (Finset.subset_univ _)) $$ Hxi
  iintro Hxi
  rw [g28]
  iapply (SparseCore.wp_vectorLoadIdx 𝒱₀ (thr d L) none Set.univ (base := w20) (S := Finset.univ) (q := fullShare) (Finset.subset_univ _)) $$ Hks
  iintro Hks
  rw [wp_assume_of _ _ _ _ (show k0_chk6 (k0_pay15 (k0_pay13 lanes (Scalar.muli (Scf.iv 0#32 1#32 n) 2048#32) 0#32 1#32 k)) from chk1 _ b27)]
  iapply (SparseCore.wp_vectorLoadIdx 𝒱₀ (thr d L) none Set.univ (base := w20) (S := Finset.univ) (q := fullShare) (Finset.subset_univ _)) $$ Hks
  iintro Hks
  rw [wp_assume_of _ _ _ _ hc7]
  rw [wp_assume_of _ _ _ _ hc9]
  iapply (SparseCore.wp_vectorLoadIdx 𝒱₀ (thr d L) none Set.univ (base := w16) (S := Finset.univ) (q := fullShare) (Finset.subset_univ _)) $$ HG
  iintro HG
  rw [wp_assume_of _ _ _ _ hc8]
  iapply (SparseCore.wp_vectorLoadIdx 𝒱₀ (thr d L) none Set.univ (base := w16) (S := Finset.univ) (q := fullShare) (Finset.subset_univ _)) $$ HG
  iintro HG
  iapply (SparseCore.wp_vectorLoadIdx 𝒱₀ (thr d L) none Set.univ (base := w16) (S := Finset.univ) (q := fullShare) (Finset.subset_univ _)) $$ HG
  iintro HG
  rw [wp_assume_of _ _ _ _ hc10]
  iapply (SparseCore.wp_vectorLoadIdx 𝒱₀ (thr d L) none Set.univ (base := w16) (S := Finset.univ) (q := fullShare) (Finset.subset_univ _)) $$ HG
  iintro HG
  iapply (SparseCore.wp_vectorLoadIdx 𝒱₀ (thr d L) none Set.univ (base := w15) (S := Finset.univ) (q := fullShare) (Finset.subset_univ _)) $$ HT
  iintro HT
  rw [wp_assume_of _ _ _ _ hc11]
  iapply (SparseCore.wp_vectorLoadIdx 𝒱₀ (thr d L) none Set.univ (base := w15) (S := Finset.univ) (q := fullShare) (Finset.subset_univ _)) $$ HT
  iintro HT
  rw [wp_ret]
  imodintro
  iapply (SparseCore.wp_vectorLoadIdx 𝒱₀ (thr d L) none Set.univ (base := w15) (S := Finset.univ) (q := fullShare) (Finset.subset_univ _)) $$ HT
  iintro HT
  rw [wp_assume_of _ _ _ _ hc12]
  iapply (SparseCore.wp_vectorLoadIdx 𝒱₀ (thr d L) none Set.univ (base := w15) (S := Finset.univ) (q := fullShare) (Finset.subset_univ _)) $$ HT
  iintro HT
  rw [wp_assume_of _ _ _ _ (show k0_chk13 (k0_pay5 (Scf.iv 0#32 1#32 k)) from ⟨chk1 _ b79, chk1 _ b79⟩)]
  iapply (SparseCore.wp_vectorLoadIdx 𝒱₀ (thr d L) none Set.univ (base := w17) (S := Finset.univ) (q := fullShare) (Finset.subset_univ _)) $$ HA
  iintro HA
  iapply (SparseCore.wp_vectorLoadIdx 𝒱₀ (thr d L) none Set.univ (base := w18) (S := Finset.univ) (q := fullShare) (Finset.subset_univ _)) $$ HU
  iintro HU
  rw [wp_assume_of _ _ _ _ (show k0_chk14 (k0_pay6 (k0_pay5 (Scf.iv 0#32 1#32 k))) from chk1 _ b84)]
  iapply (SparseCore.wp_vectorLoadIdx 𝒱₀ (thr d L) none Set.univ (base := w17) (S := Finset.univ) (q := fullShare) (Finset.subset_univ _)) $$ HA
  iintro HA
  rw [wp_assume_of _ _ _ _ (show k0_chk15 (k0_pay7 (k0_pay5 (Scf.iv 0#32 1#32 k))) from chk1 _ b84)]
  iapply (SparseCore.wp_vectorLoadIdx 𝒱₀ (thr d L) none Set.univ (base := w18) (S := Finset.univ) (q := fullShare) (Finset.subset_univ _)) $$ HU
  iintro HU
  rw [wp_ret]
  imodintro
  isplitr
  · ipureintro
    funext x
    simp only [k0_pay8, addf, subf, mulf, pay16_val, gather15, gather16, gather17, gather18, gather20, h24, h31, h79, h84, h87,
      h42, h44, h47, h51, h55, h59]
    rw [show v25 x = r32768 xi (2 * (2048 * n.val + 16 * k.val + (x 0).val)) from congrArg (r32768 xi) (h24 x),
      show v28 x = r32768 xi (2 * (2048 * n.val + 16 * k.val + (x 0).val) + 1) from congrArg (r32768 xi) (h27 x)]
    rfl
  isplitl [HT]
  · iexact HT
  isplitl [HG]
  · iexact HG
  isplitl [HA]
  · iexact HA
  isplitl [HU]
  · iexact HU
  isplitl [Hxi]
  · iexact Hxi
  · iexact Hks

end Cert.Proof.KI
-- ==== Proof.KITileS.lean ====
/-
  A task's scattering part: each plane's two rows fetched and walked, twice, and the eight planes of the task in turn.
-/
module

public import proofs.«01_k».proof.Proof.KILoopsS

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The region of the scattering part's loop over planes, at the launch's arguments. -/
abbrev t1B (L : grid0.Coords) (v1 : BitVec 32) :=
  k0_t1_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11 v1 lanes

theorem lt8a (k : Fin k0_t1_loop.trips) : k.val < 8 := lt_of_lt_of_le k.isLt k0_t1_abs.2.1

/-- The plane a task's trip works on. -/
abbrev plane (L : grid0.Coords) (k : ℕ) : ℕ := 8 * (2 * (L 1).val + (L 0).val) + k

/-- Row `plane` of an array of planes, read through the slice a copy takes. -/
theorem read_off1 (I : S256x2048.Idx → F .f32) (L : grid0.Coords) (k : Fin k0_t1_loop.trips) (x : S2048.Idx) :
    ((w8.slice (Rect.unit (s := S256x2048) (k0_off1 L k) S1x2048.size (k0_off1_inb L k)) (fun _ => rfl)).squeeze S2048
      squeezes_S1x2048_S2048).view.read (Elt F) I x = p2048 I (plane L k) (x 0).val := by
  obtain ⟨h0, h1⟩ := reshape_row squeezes_S1x2048_S2048.numel_eq x
  refine (atN_val posP2048 I (((w8.slice (Rect.unit (s := S256x2048) (k0_off1 L k) S1x2048.size (k0_off1_inb L k)) (fun _ => rfl)).squeeze S2048
      squeezes_S1x2048_S2048).view.emb x) _ fun a => ?_).symm
  have hz : ∀ b, k0_off1 L k b = ![16 * (L 1).val + 8 * (L 0).val + k.val, 0] b := fun b => by rw [k0_off1_eq]
  fin_cases a
  · show plane L k = k0_off1 L k 0 + 1 * ((Shape.reshapeEquiv squeezes_S1x2048_S2048.numel_eq x) 0).val
    rw [h0, hz]
    show plane L k = 16 * (L 1).val + 8 * (L 0).val + k.val + 1 * 0
    unfold plane
    omega
  · show (x 0).val = k0_off1 L k 1 + 1 * ((Shape.reshapeEquiv squeezes_S1x2048_S2048.numel_eq x) 1).val
    rw [h1, hz]
    show (x 0).val = 0 + 1 * (x 0).val
    omega
theorem read_off2 (I : S256x4096.Idx → F .f32) (L : grid0.Coords) (k : Fin k0_t1_loop.trips) (x : S4096.Idx) :
    ((w10.slice (Rect.unit (s := S256x4096) (k0_off2 L k) S1x4096.size (k0_off2_inb L k)) (fun _ => rfl)).squeeze S4096
      squeezes_S1x4096_S4096).view.read (Elt F) I x = p4096 I (plane L k) (x 0).val := by
  obtain ⟨h0, h1⟩ := reshape_row squeezes_S1x4096_S4096.numel_eq x
  refine (atN_val posP4096 I (((w10.slice (Rect.unit (s := S256x4096) (k0_off2 L k) S1x4096.size (k0_off2_inb L k)) (fun _ => rfl)).squeeze S4096
      squeezes_S1x4096_S4096).view.emb x) _ fun a => ?_).symm
  have hz : ∀ b, k0_off2 L k b = ![16 * (L 1).val + 8 * (L 0).val + k.val, 0] b := fun b => by rw [k0_off2_eq]
  fin_cases a
  · show plane L k = k0_off2 L k 0 + 1 * ((Shape.reshapeEquiv squeezes_S1x4096_S4096.numel_eq x) 0).val
    rw [h0, hz]
    show plane L k = 16 * (L 1).val + 8 * (L 0).val + k.val + 1 * 0
    unfold plane
    omega
  · show (x 0).val = k0_off2 L k 1 + 1 * ((Shape.reshapeEquiv squeezes_S1x4096_S4096.numel_eq x) 1).val
    rw [h1, hz]
    show (x 0).val = 0 + 1 * (x 0).val
    omega

/-- The front half of a scratch after a row is copied into it. -/
theorem front_write (f : S4096.Idx → F .f32) (w : S2048.Idx → F .f32) (i : S4096.Idx) (hi : (i 0).val < 2048) :
    w17.view.writes (Elt F) f [⟨Rect.unit (s := S4096) ![0] S2048.size inb_S4096_S2048_0, w⟩] i
      = w (fun a => ⟨(i 0).val, by obtain rfl : a = 0 := Subsingleton.elim _ _; exact hi⟩) := by
  have he : (w17.view.slice (Rect.unit (s := S4096) ![0] S2048.size inb_S4096_S2048_0)).emb
      (fun a => ⟨(i 0).val, by obtain rfl : a = 0 := Subsingleton.elim _ _; exact hi⟩) = i := by
    funext (a : Fin 1)
    obtain rfl : a = 0 := Subsingleton.elim _ _
    apply Fin.ext
    show 0 + 1 * (i 0).val = (i 0).val
    omega
  rw [View.writes_singleton]
  conv_lhs => rw [← he]
  exact View.write_emb_of_mem _ _ (Finset.mem_univ _)

theorem front_write' (f : S4096.Idx → F .f32) (w : S2048.Idx → F .f32) (i : S4096.Idx) (hi : (i 0).val < 2048) :
    w18.view.writes (Elt F) f [⟨Rect.unit (s := S4096) ![0] S2048.size inb_S4096_S2048_0, w⟩] i
      = w (fun a => ⟨(i 0).val, by obtain rfl : a = 0 := Subsingleton.elim _ _; exact hi⟩) := by
  have he : (w18.view.slice (Rect.unit (s := S4096) ![0] S2048.size inb_S4096_S2048_0)).emb
      (fun a => ⟨(i 0).val, by obtain rfl : a = 0 := Subsingleton.elim _ _; exact hi⟩) = i := by
    funext (a : Fin 1)
    obtain rfl : a = 0 := Subsingleton.elim _ _
    apply Fin.ext
    show 0 + 1 * (i 0).val = (i 0).val
    omega
  rw [View.writes_singleton]
  conv_lhs => rw [← he]
  exact View.write_emb_of_mem _ _ (Finset.mem_univ _)

/-- One more wait of this thread's own keeps the shape of what is owed. -/
theorem ins_ok {W W' : Waits sig (HIx 1)} (s : SemLoc sig) (h : ∀ p ∈ W', p ∈ W ∨ p.2 = none) :
    ∀ p ∈ insert (s, (none : HIx 1)) W', p ∈ W ∨ p.2 = none := by
  intro p hp
  rcases Finset.mem_insert.mp hp with rfl | hp
  · exact .inr rfl
  · exact h p hp

/-- Reads of a scratch's front half are the reads of the row copied there. -/
theorem stepS1_front {A U : S4096.Idx → F .f32} {I T : S256x2048.Idx → F .f32} {p : ℕ}
    (hA : ∀ i, (i 0).val < 2048 → A i = p2048 I p (i 0).val) (hU : ∀ i, (i 0).val < 2048 → U i = p2048 T p (i 0).val)
    {l t : ℕ} (hl : l < 16) (ht : t < 64) (a : F .f32) :
    stepS1 (r4096 A) (r4096 U) l t a = stepS1 (p2048 I p) (p2048 T p) l t a := by
  have h : ∀ (B : S4096.Idx → F .f32) (J : S256x2048.Idx → F .f32), (∀ i, (i 0).val < 2048 → B i = p2048 J p (i 0).val) →
      ∀ j, j < 2048 → r4096 B j = p2048 J p j := by
    intro B J hB j hj
    have hv : (((fun a => ⟨j % S4096.size a, Nat.mod_lt _ (pos4096 a)⟩ : S4096.Idx)) 0).val = j :=
      Nat.mod_eq_of_lt (show j < 4096 by omega)
    refine (hB _ (by rw [hv]; exact hj)).trans ?_
    rw [hv]
  unfold stepS1
  simp only [h A I hA _ (show 2 * (16 * t + l) < 2048 by omega), h A I hA _ (show 2 * (16 * t + l) + 1 < 2048 by omega),
    h U T hU _ (show 2 * (16 * t + l) < 2048 by omega), h U T hU _ (show 2 * (16 * t + l) + 1 < 2048 by omega)]

theorem stepS2_full {A U : S4096.Idx → F .f32} {I T : S256x4096.Idx → F .f32} {p : ℕ}
    (hA : ∀ i, A i = p4096 I p (i 0).val) (hU : ∀ i, U i = p4096 T p (i 0).val)
    (l t : ℕ) (a : F .f32) :
    stepS2 (r4096 A) (r4096 U) l t a = stepS2 (p4096 I p) (p4096 T p) l t a := by
  have h : ∀ (B : S4096.Idx → F .f32) (J : S256x4096.Idx → F .f32), (∀ i, B i = p4096 J p (i 0).val) →
      r4096 B = p4096 J p := by
    intro B J hB
    funext j
    refine (hB _).trans ?_
    show J _ = J _
    congr 1
    funext a
    apply Fin.ext
    fin_cases a
    · rfl
    · exact Nat.mod_mod _ _
  rw [h A I hA, h U T hU]

/-- What is still owed, and to which waits. -/
abbrev owesIn (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')
/-- A semaphore of the task at zero. -/
abbrev sem0 (d : Dev nD) (L : grid0.Coords) (s : SemLoc sig) : sProp 𝕄 := semVal (thr d L, s) 0

/-- A trip of the scattering part adds one plane's terms. -/
theorem t1_step (d : Dev nD) (L : grid0.Coords) (v1 : BitVec 32) (O : CellTallies nD τ sig (HIx 1)) (W : Waits sig (HIx 1)) (q : PosShare TreeShare)
    (I1 T1 : S256x2048.Idx → F .f32) (I2 T2 : S256x4096.Idx → F .f32) (k : Fin k0_t1_loop.trips) (acc : FVec F S16 .f32) :
    iprop(Transfers.MayWaits (thr d L) none O
        ∗ (w8.view.loc (thr d L) ↦{q} I1) ∗ (w9.view.loc (thr d L) ↦{q} T1)
        ∗ (w10.view.loc (thr d L) ↦{q} I2) ∗ (w11.view.loc (thr d L) ↦{q} T2)
        ∗ (∃ f : S4096.Idx → F .f32, w17.view.loc (thr d L) ↦{fullShare} f) ∗ (∃ f : S4096.Idx → F .f32, w18.view.loc (thr d L) ↦{fullShare} f)
        ∗ sem0 d L (.dma cc0_scoped0.sem) ∗ sem0 d L (.dma cc0_scoped1.sem) ∗ sem0 d L (.dma cc0_scoped2.sem) ∗ sem0 d L (.dma cc0_scoped3.sem)
        ∗ owesIn d L O W)
      ⊢ wp (M := 𝕄) frame (wpE (defs₀ (F := F)) 𝒱₀ (thr d L) none) Set.univ (t1B L v1 k acc)
        fun a => iprop(⌜a = fun x => planeS (p2048 I1 (plane L k)) (p2048 T1 (plane L k)) (p4096 I2 (plane L k)) (p4096 T2 (plane L k)) (x 0).val (acc x)⌝
          ∗ Transfers.MayWaits (thr d L) none O
        ∗ (w8.view.loc (thr d L) ↦{q} I1) ∗ (w9.view.loc (thr d L) ↦{q} T1)
        ∗ (w10.view.loc (thr d L) ↦{q} I2) ∗ (w11.view.loc (thr d L) ↦{q} T2)
        ∗ (∃ f : S4096.Idx → F .f32, w17.view.loc (thr d L) ↦{fullShare} f) ∗ (∃ f : S4096.Idx → F .f32, w18.view.loc (thr d L) ↦{fullShare} f)
        ∗ sem0 d L (.dma cc0_scoped0.sem) ∗ sem0 d L (.dma cc0_scoped1.sem) ∗ sem0 d L (.dma cc0_scoped2.sem) ∗ sem0 d L (.dma cc0_scoped3.sem)
        ∗ owesIn d L O W) := by
  unfold t1B k0_t1_body
  rw [k0_part1_eq_skeleton]
  unfold k0_part1_skel
  iintro ⟨#Hmw, H8, H9, H10, H11, ⟨%f17, H17⟩, ⟨%f18, H18⟩, Hs0, Hs1, Hs2, Hs3, %W1, %hW1, HO⟩
  sl_exec
  rw [wp_bind]
  sl_for (fun (n : ℕ) (a : FVec F S16 .f32) => iprop(⌜a = fun x => foldN (stepS1 (p2048 I1 (plane L k)) (p2048 T1 (plane L k)) (x 0).val) n (acc x)⌝
    ∗ ∃ A U : S4096.Idx → F .f32, ⌜(∀ i, (i 0).val < 2048 → A i = p2048 I1 (plane L k) (i 0).val) ∧ ∀ i, (i 0).val < 2048 → U i = p2048 T1 (plane L k) (i 0).val⌝
      ∗ (w17.view.loc (thr d L) ↦{fullShare} A) ∗ (w18.view.loc (thr d L) ↦{fullShare} U))) $$ [H17 H18]
  case region =>
    intro n a
    iintro ⟨%ha, %A, %U, %hAU, H17, H18⟩
    obtain ⟨hA, hU⟩ := hAU
    ihave Hwp := (t2_step d L v1 0#32 1#32 k acc A U n a) $$ [H17 H18]
    · isplitl [H17]
      · iexact H17
      · iexact H18
    iapply (wp_wand _ _ _) $$ Hwp
    iintro %a' ⟨%ha', H17, H18⟩
    isplitr
    · ipureintro
      rw [ha', ha]
      funext x
      rw [foldN_succ]
      exact stepS1_front hA hU (x 0).isLt (lt64 n) _
    iexists A
    iexists U
    isplitr
    · ipureintro
      exact ⟨hA, hU⟩
    isplitl [H17]
    · iexact H17
    · iexact H18
  · isplitr
    · ipureintro
      rfl
    iexists _
    iexists _
    isplitr
    rotate_left
    · isplitl [H17]
      · iexact H17
      · iexact H18
    ipureintro
    refine ⟨fun i hi => ?_, fun i hi => ?_⟩
    · rw [front_write _ _ i hi]
      exact read_off1 I1 L k _
    · rw [front_write' _ _ i hi]
      exact read_off1 T1 L k _
  iintro %v13 ⟨%h13, %A, %U, -, H17, H18⟩
  sl_exec
  sl_for (fun (n : ℕ) (a : FVec F S16 .f32) => iprop(⌜a = fun x => foldN (stepS2 (p4096 I2 (plane L k)) (p4096 T2 (plane L k)) (x 0).val) n (v13 x)⌝
    ∗ ∃ A U : S4096.Idx → F .f32, ⌜(∀ i, A i = p4096 I2 (plane L k) (i 0).val) ∧ ∀ i, U i = p4096 T2 (plane L k) (i 0).val⌝
      ∗ (w17.view.loc (thr d L) ↦{fullShare} A) ∗ (w18.view.loc (thr d L) ↦{fullShare} U))) $$ [H17 H18]
  case region =>
    intro n a
    iintro ⟨%ha, %A, %U, %hAU, H17, H18⟩
    obtain ⟨hA, hU⟩ := hAU
    ihave Hwp := (t3_step d L A U n a) $$ [H17 H18]
    · isplitl [H17]
      · iexact H17
      · iexact H18
    iapply (wp_wand _ _ _) $$ Hwp
    iintro %a' ⟨%ha', H17, H18⟩
    isplitr
    · ipureintro
      rw [ha', ha]
      funext x
      rw [foldN_succ]
      exact stepS2_full hA hU _ _ _
    iexists A
    iexists U
    isplitr
    · ipureintro
      exact ⟨hA, hU⟩
    isplitl [H17]
    · iexact H17
    · iexact H18
  · isplitr
    · ipureintro
      rfl
    iexists _
    iexists _
    isplitr
    rotate_left
    · isplitl [H17]
      · iexact H17
      · iexact H18
    ipureintro
    refine ⟨fun i => ?_, fun i => ?_⟩
    · rw [View.write_whole_univ]
      exact read_off2 I2 L k i
    · rw [View.write_whole_univ]
      exact read_off2 T2 L k i
  iintro %v15 ⟨%h15, %A', %U', -, H17, H18⟩
  sl_exec
  rw [wp_ret]
  imodintro
  isplitr
  · ipureintro
    rw [h15, h13]
    rfl
  isplitr
  · iexact Hmw
  isplitl [H8]
  · iexact H8
  isplitl [H9]
  · iexact H9
  isplitl [H10]
  · iexact H10
  isplitl [H11]
  · iexact H11
  isplitl [H17]
  · iexists A'
    iexact H17
  isplitl [H18]
  · iexists U'
    iexact H18
  isplitl [Hs0]
  · iexact Hs0
  isplitl [Hs1]
  · iexact Hs1
  isplitl [Hs2]
  · iexact Hs2
  isplitl [Hs3]
  · iexact Hs3
  iexists _
  isplitr
  rotate_left
  · iexact HO
  ipureintro
  exact ins_ok _ (ins_ok _ (ins_ok _ (ins_ok _ hW1)))

end Cert.Proof.KI
-- ==== Proof.KITileH.lean ====
/-
  A task's harmonic part: each plane's two short rows fetched and subtracted, its two long rows fetched in eight chunks and
  walked against the pairs the index words name.
-/
module

public import proofs.«01_k».proof.Proof.KILoopsH
public import proofs.«01_k».proof.Proof.KITileS

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The region of the scattering part's loop over planes, at the launch's arguments. -/
abbrev t6B (L : grid0.Coords) (t4 : Fin k0_t4_loop.trips) :=
  k0_t6_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11 lanes t4
abbrev t4B (L : grid0.Coords) :=
  k0_t4_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11 lanes

theorem lt8b (k : Fin k0_t4_loop.trips) : k.val < 8 := lt_of_lt_of_le k.isLt k0_t4_abs.2.1

/-- Row `plane` of an array of short rows, and a chunk of a row of an array of long rows, read through the slices the
    copies take. -/
theorem read_off4 (I : S256x2048.Idx → F .f32) (L : grid0.Coords) (k : Fin k0_t4_loop.trips) (x : S2048.Idx) :
    ((w2.slice (Rect.unit (s := S256x2048) (k0_off4 L k) S1x2048.size (k0_off4_inb L k)) (fun _ => rfl)).squeeze S2048
      squeezes_S1x2048_S2048).view.read (Elt F) I x = p2048 I (plane L k) (x 0).val := by
  obtain ⟨h0, h1⟩ := reshape_row squeezes_S1x2048_S2048.numel_eq x
  refine (atN_val posP2048 I (((w2.slice (Rect.unit (s := S256x2048) (k0_off4 L k) S1x2048.size (k0_off4_inb L k)) (fun _ => rfl)).squeeze S2048
      squeezes_S1x2048_S2048).view.emb x) _ fun a => ?_).symm
  have hz : ∀ b, k0_off4 L k b = ![16 * (L 1).val + 8 * (L 0).val + k.val, 0] b := fun b => by rw [k0_off4_eq]
  fin_cases a
  · show plane L k = k0_off4 L k 0 + 1 * ((Shape.reshapeEquiv squeezes_S1x2048_S2048.numel_eq x) 0).val
    rw [h0, hz]
    show plane L k = 16 * (L 1).val + 8 * (L 0).val + k.val + 1 * 0
    unfold plane
    omega
  · show (x 0).val = k0_off4 L k 1 + 1 * ((Shape.reshapeEquiv squeezes_S1x2048_S2048.numel_eq x) 1).val
    rw [h1, hz]
    show (x 0).val = 0 + 1 * (x 0).val
    omega
theorem read_off6 (I : S256x32768.Idx → F .f32) (L : grid0.Coords) (k : Fin k0_t4_loop.trips) (n : Fin k0_t6_loop.trips) (x : S4096.Idx) :
    ((w4.slice (Rect.unit (s := S256x32768) (k0_off6 L k n) S1x4096.size (k0_off6_inb L k n)) (fun _ => rfl)).squeeze S4096
      squeezes_S1x4096_S4096).view.read (Elt F) I x = p32768 I (plane L k) (4096 * n.val + (x 0).val) := by
  obtain ⟨h0, h1⟩ := reshape_row squeezes_S1x4096_S4096.numel_eq x
  refine (atN_val posP32768 I (((w4.slice (Rect.unit (s := S256x32768) (k0_off6 L k n) S1x4096.size (k0_off6_inb L k n)) (fun _ => rfl)).squeeze S4096
      squeezes_S1x4096_S4096).view.emb x) _ fun a => ?_).symm
  have hz : ∀ b, k0_off6 L k n b = ![16 * (L 1).val + 8 * (L 0).val + k.val, 4096 * n.val] b := fun b => by rw [k0_off6_eq]
  fin_cases a
  · show plane L k = k0_off6 L k n 0 + 1 * ((Shape.reshapeEquiv squeezes_S1x4096_S4096.numel_eq x) 0).val
    rw [h0, hz]
    show plane L k = 16 * (L 1).val + 8 * (L 0).val + k.val + 1 * 0
    unfold plane
    omega
  · show 4096 * n.val + (x 0).val = k0_off6 L k n 1 + 1 * ((Shape.reshapeEquiv squeezes_S1x4096_S4096.numel_eq x) 1).val
    rw [h1, hz]
    show 4096 * n.val + (x 0).val = 4096 * n.val + 1 * (x 0).val
    omega

/-- The short-row scratches read at any position, from their contents at the positions they have. -/
theorem r2048_row {A : S2048.Idx → F .f32} {I : S256x2048.Idx → F .f32} {p : ℕ}
    (hA : ∀ i, A i = p2048 I p (i 0).val) (j : ℕ) : r2048 A j = p2048 I p j := by
  refine (hA _).trans ?_
  show I _ = I _
  congr 1
  funext a
  apply Fin.ext
  fin_cases a
  · rfl
  · exact Nat.mod_mod _ _
/-- A scratch holding a chunk, read within the chunk. -/
theorem r4096_chunk {A : S4096.Idx → F .f32} {I : S256x32768.Idx → F .f32} {p n : ℕ}
    (hA : ∀ i, A i = p32768 I p (4096 * n + (i 0).val)) {j : ℕ} (hj : j < 4096) : r4096 A j = p32768 I p (4096 * n + j) := by
  refine (hA _).trans ?_
  have hv : (((fun a => ⟨j % S4096.size a, Nat.mod_lt _ (pos4096 a)⟩ : S4096.Idx)) 0).val = j := Nat.mod_eq_of_lt hj
  rw [hv]

/-- What the copies of a chunk leave, walked: one chunk's terms. -/
theorem t6_step (d : Dev nD) (L : grid0.Coords) (O : CellTallies nD τ sig (HIx 1)) (W : Waits sig (HIx 1)) (q : PosShare TreeShare)
    (IS TS : S256x32768.Idx → F .f32) (T G : S2048.Idx → F .f32) (xi ks : S32768.Idx → BitVec 32) (hxi : ∀ j, (xi j).toNat < 1024)
    (t : Fin k0_t4_loop.trips) (k : Fin k0_t6_loop.trips) (acc : FVec F S16 .f32) :
    iprop(Transfers.MayWaits (thr d L) none O
        ∗ (w4.view.loc (thr d L) ↦{q} IS) ∗ (w5.view.loc (thr d L) ↦{q} TS)
        ∗ (w15.view.loc (thr d L) ↦{fullShare} T) ∗ (w16.view.loc (thr d L) ↦{fullShare} G)
        ∗ (∃ f, w17.view.loc (thr d L) ↦{fullShare} f) ∗ (∃ f, w18.view.loc (thr d L) ↦{fullShare} f)
        ∗ (w19.view.loc (thr d L) ↦{fullShare} xi) ∗ (w20.view.loc (thr d L) ↦{fullShare} ks)
        ∗ sem0 d L (.dma cc0_scoped8.sem) ∗ sem0 d L (.dma cc0_scoped9.sem) ∗ owesIn d L O W)
      ⊢ wp (M := 𝕄) frame (wpE (defs₀ (F := F)) 𝒱₀ (thr d L) none) Set.univ (t6B L t k acc)
        fun a => iprop(⌜a = fun x => chunkH (r2048 G) (r2048 T) (p32768 IS (plane L t)) (p32768 TS (plane L t)) (r32768 xi) (r32768 ks)
            k.val (x 0).val (acc x)⌝
        ∗ Transfers.MayWaits (thr d L) none O
        ∗ (w4.view.loc (thr d L) ↦{q} IS) ∗ (w5.view.loc (thr d L) ↦{q} TS)
        ∗ (w15.view.loc (thr d L) ↦{fullShare} T) ∗ (w16.view.loc (thr d L) ↦{fullShare} G)
        ∗ (∃ f, w17.view.loc (thr d L) ↦{fullShare} f) ∗ (∃ f, w18.view.loc (thr d L) ↦{fullShare} f)
        ∗ (w19.view.loc (thr d L) ↦{fullShare} xi) ∗ (w20.view.loc (thr d L) ↦{fullShare} ks)
        ∗ sem0 d L (.dma cc0_scoped8.sem) ∗ sem0 d L (.dma cc0_scoped9.sem) ∗ owesIn d L O W) := by
  unfold t6B k0_t6_body
  iintro ⟨#Hmw, H4, H5, H15, H16, ⟨%f17, H17⟩, ⟨%f18, H18⟩, H19, H20, Hs8, Hs9, %W1, %hW1, HO⟩
  sl_exec
  sl_for (fun (n : ℕ) (a : FVec F S16 .f32) => iprop(⌜a = fun x => foldN (stepH (r2048 G) (r2048 T) (p32768 IS (plane L t)) (p32768 TS (plane L t)) (r32768 xi) (r32768 ks) k.val (x 0).val) n (acc x)⌝
    ∗ (w15.view.loc (thr d L) ↦{fullShare} T) ∗ (w16.view.loc (thr d L) ↦{fullShare} G)
    ∗ (∃ A U : S4096.Idx → F .f32, ⌜(∀ i, A i = p32768 IS (plane L t) (4096 * k.val + (i 0).val)) ∧ ∀ i, U i = p32768 TS (plane L t) (4096 * k.val + (i 0).val)⌝
      ∗ (w17.view.loc (thr d L) ↦{fullShare} A) ∗ (w18.view.loc (thr d L) ↦{fullShare} U))
    ∗ (w19.view.loc (thr d L) ↦{fullShare} xi) ∗ (w20.view.loc (thr d L) ↦{fullShare} ks))) $$ [H15 H16 H17 H18 H19 H20]
  case region =>
    intro n a
    iintro ⟨%ha, H15, H16, ⟨%A, %U, %hAU, H17, H18⟩, H19, H20⟩
    obtain ⟨hA, hU⟩ := hAU
    ihave Hwp := (t7_step d L k T G A U xi ks hxi n a) $$ [H15 H16 H17 H18 H19 H20]
    · iframe
    iapply (wp_wand _ _ _) $$ Hwp
    iintro %a' ⟨%ha', H15, H16, H17, H18, H19, H20⟩
    isplitr
    · ipureintro
      rw [ha', ha]
      funext x
      have hx : (x 0).val < 16 := (x 0).isLt
      have hn := lt128' n
      rw [foldN_succ, r4096_chunk hA (by omega), r4096_chunk hU (by omega), r4096_chunk hA (by omega), r4096_chunk hU (by omega)]
      rfl
    iframe
    iexists A
    iexists U
    iframe
    ipureintro
    exact ⟨hA, hU⟩
  · isplitr
    · ipureintro
      rfl
    iframe H15 H16 H19 H20
    iexists _
    iexists _
    isplitr
    rotate_left
    · isplitl [H17]
      · iexact H17
      · iexact H18
    ipureintro
    refine ⟨fun i => ?_, fun i => ?_⟩
    · rw [View.write_whole_univ]
      exact read_off6 IS L t k i
    · rw [View.write_whole_univ]
      exact read_off6 TS L t k i
  iintro %v18 ⟨%h18, H15, H16, ⟨%A, %U, -, H17, H18⟩, H19, H20⟩
  sl_exec
  rw [wp_ret]
  imodintro
  isplitr
  · ipureintro
    rw [h18]
    rfl
  isplitr
  · iexact Hmw
  iframe H4 H5 H15 H16 H19 H20 Hs8 Hs9
  isplitl [H17]
  · iexists A
    iexact H17
  isplitl [H18]
  · iexists U
    iexact H18
  iexists _
  isplitr
  rotate_left
  · iexact HO
  ipureintro
  exact ins_ok _ (ins_ok _ hW1)

/-- A trip of the harmonic part adds one plane's terms. -/
theorem t4_step (d : Dev nD) (L : grid0.Coords) (O : CellTallies nD τ sig (HIx 1)) (W : Waits sig (HIx 1)) (q : PosShare TreeShare)
    (I T : S256x2048.Idx → F .f32) (IS TS : S256x32768.Idx → F .f32) (xi ks : S32768.Idx → BitVec 32) (hxi : ∀ j, (xi j).toNat < 1024)
    (k : Fin k0_t4_loop.trips) (acc : FVec F S16 .f32) :
    iprop(Transfers.MayWaits (thr d L) none O
        ∗ (w2.view.loc (thr d L) ↦{q} I) ∗ (w3.view.loc (thr d L) ↦{q} T)
        ∗ (w4.view.loc (thr d L) ↦{q} IS) ∗ (w5.view.loc (thr d L) ↦{q} TS)
        ∗ (∃ f, w14.view.loc (thr d L) ↦{fullShare} f) ∗ (∃ f, w15.view.loc (thr d L) ↦{fullShare} f) ∗ (∃ f, w16.view.loc (thr d L) ↦{fullShare} f)
        ∗ (∃ f, w17.view.loc (thr d L) ↦{fullShare} f) ∗ (∃ f, w18.view.loc (thr d L) ↦{fullShare} f)
        ∗ (w19.view.loc (thr d L) ↦{fullShare} xi) ∗ (w20.view.loc (thr d L) ↦{fullShare} ks)
        ∗ sem0 d L (.dma cc0_scoped6.sem) ∗ sem0 d L (.dma cc0_scoped7.sem)
        ∗ sem0 d L (.dma cc0_scoped8.sem) ∗ sem0 d L (.dma cc0_scoped9.sem) ∗ owesIn d L O W)
      ⊢ wp (M := 𝕄) frame (wpE (defs₀ (F := F)) 𝒱₀ (thr d L) none) Set.univ (t4B L k acc)
        fun a => iprop(⌜a = fun x => planeH (p2048 I (plane L k)) (p2048 T (plane L k)) (p32768 IS (plane L k)) (p32768 TS (plane L k))
            (r32768 xi) (r32768 ks) (x 0).val (acc x)⌝
        ∗ Transfers.MayWaits (thr d L) none O
        ∗ (w2.view.loc (thr d L) ↦{q} I) ∗ (w3.view.loc (thr d L) ↦{q} T)
        ∗ (w4.view.loc (thr d L) ↦{q} IS) ∗ (w5.view.loc (thr d L) ↦{q} TS)
        ∗ (∃ f, w14.view.loc (thr d L) ↦{fullShare} f) ∗ (∃ f, w15.view.loc (thr d L) ↦{fullShare} f) ∗ (∃ f, w16.view.loc (thr d L) ↦{fullShare} f)
        ∗ (∃ f, w17.view.loc (thr d L) ↦{fullShare} f) ∗ (∃ f, w18.view.loc (thr d L) ↦{fullShare} f)
        ∗ (w19.view.loc (thr d L) ↦{fullShare} xi) ∗ (w20.view.loc (thr d L) ↦{fullShare} ks)
        ∗ sem0 d L (.dma cc0_scoped6.sem) ∗ sem0 d L (.dma cc0_scoped7.sem)
        ∗ sem0 d L (.dma cc0_scoped8.sem) ∗ sem0 d L (.dma cc0_scoped9.sem) ∗ owesIn d L O W) := by
  unfold t4B k0_t4_body
  iintro ⟨#Hmw, H2, H3, H4, H5, ⟨%f14, H14⟩, ⟨%f15, H15⟩, ⟨%f16, H16⟩, H17, H18, H19, H20, Hs6, Hs7, Hs8, Hs9, %W1, %hW1, HO⟩
  sl_exec
  sl_for (fun (n : ℕ) (_ : Unit) => iprop(∃ A U : S2048.Idx → F .f32, ⌜(∀ i, A i = p2048 I (plane L k) (i 0).val) ∧ ∀ i, U i = p2048 T (plane L k) (i 0).val⌝
      ∗ (w14.view.loc (thr d L) ↦{fullShare} A) ∗ (w15.view.loc (thr d L) ↦{fullShare} U)
      ∗ ∃ G : S2048.Idx → F .f32, ⌜∀ i : S2048.Idx, (i 0).val < 16 * n → G i = FloatOps.subf (A i) (U i)⌝
          ∗ (w16.view.loc (thr d L) ↦{fullShare} G))) $$ [H14 H15 H16]
  case region =>
    intro n a
    iintro ⟨%A, %U, %hAU, H⟩
    ihave Hwp := (t5_step d L A U n a) $$ H
    iapply (wp_wand _ _ _) $$ Hwp
    iintro %a' H
    iexists A
    iexists U
    iframe
    ipureintro
    exact hAU
  · iexists _
    iexists _
    isplitr
    rotate_left
    · isplitl [H14]
      · iexact H14
      isplitl [H15]
      · iexact H15
      iexists f16
      iframe
      ipureintro
      exact fun i hi => absurd hi (Nat.not_lt_zero _)
    ipureintro
    refine ⟨fun i => ?_, fun i => ?_⟩
    · rw [View.write_whole_univ]
      exact read_off4 I L k i
    · rw [View.write_whole_univ]
      exact read_off4 T L k i
  iintro %u ⟨%A, %U, %hAU, H14, H15, %G, %hG, H16⟩
  obtain ⟨hA, hU⟩ := hAU
  have hG' : ∀ i, G i = FloatOps.subf (A i) (U i) := fun i => hG i (lt_of_lt_of_le (i 0).isLt (by decide))
  sl_exec
  sl_for (fun (n : ℕ) (a : FVec F S16 .f32) => iprop(⌜a = fun x => foldN (fun cn => chunkH (r2048 G) (r2048 U) (p32768 IS (plane L k)) (p32768 TS (plane L k)) (r32768 xi) (r32768 ks)
            cn (x 0).val) n (acc x)⌝
        ∗ Transfers.MayWaits (thr d L) none O
        ∗ (w4.view.loc (thr d L) ↦{q} IS) ∗ (w5.view.loc (thr d L) ↦{q} TS)
        ∗ (w15.view.loc (thr d L) ↦{fullShare} U) ∗ (w16.view.loc (thr d L) ↦{fullShare} G)
        ∗ (∃ f, w17.view.loc (thr d L) ↦{fullShare} f) ∗ (∃ f, w18.view.loc (thr d L) ↦{fullShare} f)
        ∗ (w19.view.loc (thr d L) ↦{fullShare} xi) ∗ (w20.view.loc (thr d L) ↦{fullShare} ks)
        ∗ sem0 d L (.dma cc0_scoped8.sem) ∗ sem0 d L (.dma cc0_scoped9.sem) ∗ owesIn d L O W)) $$ [H4 H5 H15 H16 H17 H18 H19 H20 Hs8 Hs9 HO]
  case region =>
    intro n a
    iintro ⟨%ha, H⟩
    ihave Hwp := (t6_step d L O W q IS TS U G xi ks hxi k n a) $$ H
    iapply (wp_wand _ _ _) $$ Hwp
    iintro %a' ⟨%ha', H⟩
    isplitr
    · ipureintro
      rw [ha', ha]
      rfl
    iexact H
  · isplitr
    · ipureintro
      rfl
    isplitr
    · iexact Hmw
    iframe H4 H5 H15 H16 H17 H18 H19 H20 Hs8 Hs9
    iexists _
    isplitr
    rotate_left
    · iexact HO
    ipureintro
    exact ins_ok _ (ins_ok _ hW1)
  iintro %v14 ⟨%h14, -, H4, H5, H15, H16, H17, H18, H19, H20, Hs8, Hs9, HO⟩
  sl_exec
  rw [wp_ret]
  imodintro
  isplitr
  · ipureintro
    have e1 : r2048 G = fun j => FloatOps.subf (p2048 I (plane L k) j) (p2048 T (plane L k) j) := by
      funext j
      refine (hG' _).trans ?_
      exact congrArg₂ FloatOps.subf (r2048_row hA j) (r2048_row hU j)
    have e2 : r2048 U = p2048 T (plane L k) := funext (r2048_row hU)
    rw [h14, e1, e2]
    rfl
  isplitr
  · iexact Hmw
  iframe H2 H3 H4 H5 H17 H18 H19 H20 Hs6 Hs7 Hs8 Hs9 HO
  isplitl [H14]
  · iexists A
    iexact H14
  isplitl [H15]
  · iexists U
    iexact H15
  iexists G
  iexact H16

end Cert.Proof.KI
-- ==== Proof.KITile.lean ====
/-
  A whole task: the scattering sum stored, the two word rows fetched, the harmonic sum stored, and both written to the
  task's row of the two results.
-/
module

public import proofs.«01_k».proof.Proof.KITileH
public import Idealize.ShloMosaic.Lib.WritesUnit

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task's number: its row of the two results. -/
def wid (L : grid0.Coords) : ℕ := 2 * (L 1).val + (L 0).val
/-- The row of a result the task writes. -/
abbrev outRow (w : Memref sig .scVector .hbm S32x16 .f32) (L : grid0.Coords) : Memref sig .scVector .hbm S16 .f32 :=
  (w.slice (Rect.unit (s := S32x16) (k0_off7 L) S1x16.size (k0_off7_inb L)) (fun _ => rfl)).squeeze S16 squeezes_S1x16_S16

/-- The harmonic result: row `w` holds task `w`'s sixteen lanes. -/
def harmOut (a2 a3 : S256x2048.Idx → F .f32) (a4 a5 : S256x32768.Idx → F .f32) (a6 a7 : S32768.Idx → BitVec 32) : S32x16.Idx → F .f32 :=
  fun i => tileH (p2048 a2) (p2048 a3) (p32768 a4) (p32768 a5) (r32768 a6) (r32768 a7) (8 * (i 0).val) (i 1).val
/-- The scattering result: row `w` holds task `w`'s sixteen lanes. -/
def scatOut (a8 a9 : S256x2048.Idx → F .f32) (a10 a11 : S256x4096.Idx → F .f32) : S32x16.Idx → F .f32 :=
  fun i => tileS (p2048 a8) (p2048 a9) (p4096 a10) (p4096 a11) (8 * (i 0).val) (i 1).val

/-- Where a task's row of a result lies. -/
theorem row_emb (L : grid0.Coords) (x : S16.Idx) :
    (((outRow w12 L).view.emb x : S32x16.Idx) 0).val = wid L ∧ (((outRow w12 L).view.emb x : S32x16.Idx) 1).val = (x 0).val := by
  obtain ⟨h0, h1⟩ := reshape_row squeezes_S1x16_S16.numel_eq x
  have hz : ∀ b, k0_off7 L b = ![2 * (L 1).val + (L 0).val, 0] b := fun b => by rw [k0_off7_eq]
  constructor
  · show k0_off7 L 0 + 1 * ((Shape.reshapeEquiv squeezes_S1x16_S16.numel_eq x) 0).val = wid L
    rw [h0, hz]
    show 2 * (L 1).val + (L 0).val + 1 * 0 = wid L
    unfold wid
    omega
  · show k0_off7 L 1 + 1 * ((Shape.reshapeEquiv squeezes_S1x16_S16.numel_eq x) 1).val = (x 0).val
    rw [h1, hz]
    show 0 + 1 * (x 0).val = (x 0).val
    omega
/-- What a copy into a task's row leaves there. -/
theorem row_write (L : grid0.Coords) (f g : S32x16.Idx → F .f32) (v : S16.Idx → F .f32)
    (hg : ∀ (x : S16.Idx) (i : S32x16.Idx), (i 0).val = wid L → (i 1).val = (x 0).val → v x = g i) :
    ∀ i ∈ (outRow w12 L).view.set, (outRow w12 L).view.writes (Elt F) f [⟨Rect.whole S16, v⟩] i = g i := by
  intro i hi
  obtain ⟨x, -, rfl⟩ := Finset.mem_map.mp hi
  have h : (outRow w12 L).view.writes (Elt F) f [⟨Rect.whole S16, v⟩] = (outRow w12 L).view.write (Elt F) f v Finset.univ :=
    (View.write_univ_eq_writes_whole (Val := Elt F) (outRow w12 L).view f [] v).symm
  rw [h]
  refine (View.write_emb_of_mem _ _ (Finset.mem_univ _)).trans ?_
  exact hg x _ (row_emb L x).1 (row_emb L x).2
/-- The lanes stored in a scratch, read back. -/
theorem stored (f : S16.Idx → F .f32) (v : S16.Idx → F .f32) :
    w21.view.read (Elt F) (w21.view.writes (Elt F) f [⟨Rect.unit (s := S16) ![0] S16.size inb_S16_S16_0, v⟩]) = v :=
  funext fun x => View.read_writes_cons_unit_of_mem (Val := Elt F) w21.view f (off := ![0]) (off' := ![0]) (size := S16.size) inb_S16_S16_0 v [] x x rfl fun a => by
    obtain rfl : a = 0 := Subsingleton.elim _ _
    exact (Nat.zero_add _).symm
theorem stored' (f : S16.Idx → F .f32) (v : S16.Idx → F .f32) :
    w22.view.read (Elt F) (w22.view.writes (Elt F) f [⟨Rect.unit (s := S16) ![0] S16.size inb_S16_S16_0, v⟩]) = v :=
  funext fun x => View.read_writes_cons_unit_of_mem (Val := Elt F) w22.view f (off := ![0]) (off' := ![0]) (size := S16.size) inb_S16_S16_0 v [] x x rfl fun a => by
    obtain rfl : a = 0 := Subsingleton.elim _ _
    exact (Nat.zero_add _).symm

set_option maxHeartbeats 2000000 in
/-- A task writes its rows of the two results and hands everything else back. -/
theorem tile_run (d : Dev nD) (L : grid0.Coords) (O : CellTallies nD τ sig (HIx 1)) (W : Waits sig (HIx 1)) (q : PosShare TreeShare)
    (a2 a3 a8 a9 : S256x2048.Idx → F .f32) (a4 a5 : S256x32768.Idx → F .f32) (a6 a7 : S32768.Idx → BitVec 32)
    (a10 a11 : S256x4096.Idx → F .f32) (f12 f13 : S32x16.Idx → F .f32) (hxi : ∀ j, (a6 j).toNat < 1024) :
    iprop(Transfers.MayWaits (thr d L) none O
        ∗ (w2.view.loc (thr d L) ↦{q} a2) ∗ (w3.view.loc (thr d L) ↦{q} a3) ∗ (w4.view.loc (thr d L) ↦{q} a4) ∗ (w5.view.loc (thr d L) ↦{q} a5)
        ∗ (w6.view.loc (thr d L) ↦{q} a6) ∗ (w7.view.loc (thr d L) ↦{q} a7) ∗ (w8.view.loc (thr d L) ↦{q} a8) ∗ (w9.view.loc (thr d L) ↦{q} a9)
        ∗ (w10.view.loc (thr d L) ↦{q} a10) ∗ (w11.view.loc (thr d L) ↦{q} a11)
        ∗ ((outRow w12 L).view.loc (thr d L) ↦[(outRow w12 L).view.set]{fullShare} f12)
        ∗ ((outRow w13 L).view.loc (thr d L) ↦[(outRow w13 L).view.set]{fullShare} f13)
        ∗ (∃ f, w14.view.loc (thr d L) ↦{fullShare} f)
        ∗ (∃ f, w15.view.loc (thr d L) ↦{fullShare} f)
        ∗ (∃ f, w16.view.loc (thr d L) ↦{fullShare} f)
        ∗ (∃ f, w17.view.loc (thr d L) ↦{fullShare} f)
        ∗ (∃ f, w18.view.loc (thr d L) ↦{fullShare} f)
        ∗ (∃ f, w19.view.loc (thr d L) ↦{fullShare} f)
        ∗ (∃ f, w20.view.loc (thr d L) ↦{fullShare} f)
        ∗ (∃ f, w21.view.loc (thr d L) ↦{fullShare} f)
        ∗ (∃ f, w22.view.loc (thr d L) ↦{fullShare} f)
        ∗ sem0 d L (.dma cc0_scoped0.sem) ∗ sem0 d L (.dma cc0_scoped1.sem) ∗ sem0 d L (.dma cc0_scoped2.sem) ∗ sem0 d L (.dma cc0_scoped3.sem)
        ∗ sem0 d L (.dma cc0_scoped4.sem) ∗ sem0 d L (.dma cc0_scoped5.sem) ∗ sem0 d L (.dma cc0_scoped6.sem) ∗ sem0 d L (.dma cc0_scoped7.sem)
        ∗ sem0 d L (.dma cc0_scoped8.sem) ∗ sem0 d L (.dma cc0_scoped9.sem) ∗ sem0 d L (.dma cc0_scoped10.sem) ∗ sem0 d L (.dma cc0_scoped11.sem) ∗ owesIn d L O W)
      ⊢ wp (M := 𝕄) frame (wpE (defs₀ (F := F)) 𝒱₀ (thr d L) none) Set.univ
          (cc0__sc_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11)
        fun _ => iprop(Transfers.MayWaits (thr d L) none O
        ∗ (w2.view.loc (thr d L) ↦{q} a2) ∗ (w3.view.loc (thr d L) ↦{q} a3) ∗ (w4.view.loc (thr d L) ↦{q} a4) ∗ (w5.view.loc (thr d L) ↦{q} a5)
        ∗ (w6.view.loc (thr d L) ↦{q} a6) ∗ (w7.view.loc (thr d L) ↦{q} a7) ∗ (w8.view.loc (thr d L) ↦{q} a8) ∗ (w9.view.loc (thr d L) ↦{q} a9)
        ∗ (w10.view.loc (thr d L) ↦{q} a10) ∗ (w11.view.loc (thr d L) ↦{q} a11)
        ∗ ((outRow w12 L).view.loc (thr d L) ↦[(outRow w12 L).view.set]{fullShare} harmOut a2 a3 a4 a5 a6 a7)
        ∗ ((outRow w13 L).view.loc (thr d L) ↦[(outRow w13 L).view.set]{fullShare} scatOut a8 a9 a10 a11)
        ∗ (∃ f, w14.view.loc (thr d L) ↦{fullShare} f)
        ∗ (∃ f, w15.view.loc (thr d L) ↦{fullShare} f)
        ∗ (∃ f, w16.view.loc (thr d L) ↦{fullShare} f)
        ∗ (∃ f, w17.view.loc (thr d L) ↦{fullShare} f)
        ∗ (∃ f, w18.view.loc (thr d L) ↦{fullShare} f)
        ∗ (∃ f, w19.view.loc (thr d L) ↦{fullShare} f)
        ∗ (∃ f, w20.view.loc (thr d L) ↦{fullShare} f)
        ∗ (∃ f, w21.view.loc (thr d L) ↦{fullShare} f)
        ∗ (∃ f, w22.view.loc (thr d L) ↦{fullShare} f)
        ∗ sem0 d L (.dma cc0_scoped0.sem) ∗ sem0 d L (.dma cc0_scoped1.sem) ∗ sem0 d L (.dma cc0_scoped2.sem) ∗ sem0 d L (.dma cc0_scoped3.sem)
        ∗ sem0 d L (.dma cc0_scoped4.sem) ∗ sem0 d L (.dma cc0_scoped5.sem) ∗ sem0 d L (.dma cc0_scoped6.sem) ∗ sem0 d L (.dma cc0_scoped7.sem)
        ∗ sem0 d L (.dma cc0_scoped8.sem) ∗ sem0 d L (.dma cc0_scoped9.sem) ∗ sem0 d L (.dma cc0_scoped10.sem) ∗ sem0 d L (.dma cc0_scoped11.sem) ∗ owesIn d L O W) := by
  rw [cc0__sc_body_eq_skeleton]
  unfold cc0__sc_body_skel
  iintro ⟨#Hmw, H2, H3, H4, H5, H6, H7, H8, H9, H10, H11, H12, H13, H14, H15, H16, H17, H18, ⟨%f19, H19⟩, ⟨%f20, H20⟩, ⟨%f21, H21⟩, ⟨%f22, H22⟩,
    Hs0, Hs1, Hs2, Hs3, Hs4, Hs5, Hs6, Hs7, Hs8, Hs9, Hs10, Hs11, HO⟩
  sl_exec
  sl_for (fun (n : ℕ) (a : FVec F S16 .f32) => iprop(⌜a = fun x => foldN (fun k => planeS (p2048 a8 (8 * wid L + k)) (p2048 a9 (8 * wid L + k)) (p4096 a10 (8 * wid L + k))
          (p4096 a11 (8 * wid L + k)) (x 0).val) n c0⌝
        ∗ Transfers.MayWaits (thr d L) none O
        ∗ (w8.view.loc (thr d L) ↦{q} a8) ∗ (w9.view.loc (thr d L) ↦{q} a9) ∗ (w10.view.loc (thr d L) ↦{q} a10) ∗ (w11.view.loc (thr d L) ↦{q} a11)
        ∗ (∃ f, w17.view.loc (thr d L) ↦{fullShare} f) ∗ (∃ f, w18.view.loc (thr d L) ↦{fullShare} f)
        ∗ sem0 d L (.dma cc0_scoped0.sem) ∗ sem0 d L (.dma cc0_scoped1.sem) ∗ sem0 d L (.dma cc0_scoped2.sem) ∗ sem0 d L (.dma cc0_scoped3.sem)
        ∗ owesIn d L O W)) $$ [H8 H9 H10 H11 H17 H18 Hs0 Hs1 Hs2 Hs3 HO]
  case region =>
    intro k a
    iintro ⟨%ha, H⟩
    ihave Hwp := (t1_step d L _ O W q a8 a9 a10 a11 k a) $$ H
    iapply (wp_wand _ _ _) $$ Hwp
    iintro %a' ⟨%ha', H⟩
    isplitr
    · ipureintro
      rw [ha', ha]
      rfl
    iexact H
  · isplitr
    · ipureintro
      rfl
    isplitr
    · iexact Hmw
    iframe H8 H9 H10 H11 H17 H18 Hs0 Hs1 Hs2 Hs3 HO
  iintro %v5 ⟨%h5, -, H8, H9, H10, H11, H17, H18, Hs0, Hs1, Hs2, Hs3, %W1, %hW1, HO⟩
  sl_exec
  have e19 : View.write (Elt F) (Memref.whole cc0_scratch5).view f19 (tile_run.sl.dma2 a6) Finset.univ = a6 := by
    rw [View.write_whole_univ]
    rfl
  have e20 : View.write (Elt F) (Memref.whole cc0_scratch6).view f20 (tile_run.sl.dma2_1 a7) Finset.univ = a7 := by
    rw [View.write_whole_univ]
    rfl
  rw [e19, e20]
  sl_for (fun (n : ℕ) (a : FVec F S16 .f32) => iprop(⌜a = fun x => foldN (fun k => planeH (p2048 a2 (8 * wid L + k)) (p2048 a3 (8 * wid L + k)) (p32768 a4 (8 * wid L + k))
          (p32768 a5 (8 * wid L + k)) (r32768 a6) (r32768 a7) (x 0).val) n c0⌝
        ∗ Transfers.MayWaits (thr d L) none O
        ∗ (w2.view.loc (thr d L) ↦{q} a2) ∗ (w3.view.loc (thr d L) ↦{q} a3) ∗ (w4.view.loc (thr d L) ↦{q} a4) ∗ (w5.view.loc (thr d L) ↦{q} a5)
        ∗ (∃ f, w14.view.loc (thr d L) ↦{fullShare} f) ∗ (∃ f, w15.view.loc (thr d L) ↦{fullShare} f) ∗ (∃ f, w16.view.loc (thr d L) ↦{fullShare} f)
        ∗ (∃ f, w17.view.loc (thr d L) ↦{fullShare} f) ∗ (∃ f, w18.view.loc (thr d L) ↦{fullShare} f)
        ∗ (w19.view.loc (thr d L) ↦{fullShare} a6) ∗ (w20.view.loc (thr d L) ↦{fullShare} a7)
        ∗ sem0 d L (.dma cc0_scoped6.sem) ∗ sem0 d L (.dma cc0_scoped7.sem) ∗ sem0 d L (.dma cc0_scoped8.sem) ∗ sem0 d L (.dma cc0_scoped9.sem)
        ∗ owesIn d L O W)) $$ [H2 H3 H4 H5 H14 H15 H16 H17 H18 H19 H20 Hs6 Hs7 Hs8 Hs9 HO]
  case region =>
    intro k a
    iintro ⟨%ha, H⟩
    ihave Hwp := (t4_step d L O W q a2 a3 a4 a5 a6 a7 hxi k a) $$ H
    iapply (wp_wand _ _ _) $$ Hwp
    iintro %a' ⟨%ha', H⟩
    isplitr
    · ipureintro
      rw [ha', ha]
      rfl
    iexact H
  · isplitr
    · ipureintro
      rfl
    isplitr
    · iexact Hmw
    iframe H2 H3 H4 H5 H14 H15 H16 H17 H18 H19 H20 Hs6 Hs7 Hs8 Hs9
    iexists _
    isplitr
    rotate_left
    · iexact HO
    ipureintro
    exact ins_ok _ (ins_ok _ hW1)
  iintro %v8 ⟨%h8, -, H2, H3, H4, H5, H14, H15, H16, H17, H18, H19, H20, Hs6, Hs7, Hs8, Hs9, %W2, %hW2, HO⟩
  sl_exec
  have e12 : ∀ i ∈ (outRow w12 L).view.set, (outRow w12 L).view.writes (Elt F) f12 [⟨Rect.whole S16, tile_run.sl.dma2_2 d L f21 v8⟩] i
      = harmOut a2 a3 a4 a5 a6 a7 i := by
    refine row_write L f12 _ _ fun x i h0 h1 => ?_
    have hs : tile_run.sl.dma2_2 d L f21 v8 = v8 := stored f21 v8
    rw [hs]
    rw [h8]
    unfold harmOut tileH
    rw [h0, h1]
    rfl
  have e13 : ∀ i ∈ (outRow w13 L).view.set, (outRow w13 L).view.writes (Elt F) f13 [⟨Rect.whole S16, tile_run.sl.dma2_3 v5⟩] i
      = scatOut a8 a9 a10 a11 i := by
    refine row_write L f13 _ _ fun x i h0 h1 => ?_
    have hs : tile_run.sl.dma2_3 v5 = v5 := stored' _ v5
    rw [hs]
    rw [h5]
    unfold scatOut tileS
    rw [h0, h1]
    rfl
  ihave H12' := (Entails.of_eq (pointsTo_congr e12)) $$ H12
  ihave H13' := (Entails.of_eq (pointsTo_congr e13)) $$ H13
  rw [wp_ret]
  imodintro
  isplitr
  · iexact Hmw
  iframe H2 H3 H4 H5 H6 H7 H8 H9 H10 H11 H12' H13' H14 H15 H16 H17 H18 Hs0 Hs1 Hs2 Hs3 Hs4 Hs5 Hs6 Hs7 Hs8 Hs9 Hs10 Hs11
  isplitl [H19]
  · iexists _
    iexact H19
  isplitl [H20]
  · iexists _
    iexact H20
  isplitl [H21]
  · iexists _
    iexact H21
  isplitl [H22]
  · iexists _
    iexact H22
  iexists _
  isplitr
  rotate_left
  · iexact HO
  ipureintro
  exact ins_ok _ (ins_ok _ hW2)

end Cert.Proof.KI
-- ==== Proof.KILaunch.lean ====
/-
  One task against the launch: the scratches and semaphores a vector subcore owns, what the launch hands the task and
  takes back, and the task's obligation.
-/
module

public import proofs.«01_k».proof.Proof.KITile

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A subcore's own scratches and semaphores -/

/-- The semaphores the task's copies signal. -/
def semSet : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem}
/-- The task's scratches. -/
def bufSet : Finset (Ref sig .scVector) := {cc0_scratch0, cc0_scratch1, cc0_scratch2, cc0_scratch3, cc0_scratch4, cc0_scratch5, cc0_scratch6, cc0_scratch7, cc0_scratch8}

/-- A semaphore of the task's thread as a cell of the machine. -/
def cellOf (d : Dev nD) (L : grid0.Coords) : SemLoc sig ↪ GSem nD τ sig := ⟨fun s => (thr d L, s), fun _ _ e => (Prod.mk.inj e).2⟩
/-- A buffer of the task's thread as one of the device. -/
def refOf (L : grid0.Coords) : Ref sig .scVector ↪ DevRef τ sig :=
  ⟨(Proc.scVector (cV L) (jV L)).devRef, Proc.devRef_injective _⟩

theorem semSet_scoped : ∀ s ∈ semSet, s.isScoped .scVector = true := by decide

theorem cells_sub (d : Dev nD) (L : grid0.Coords) : semSet.map (cellOf d L) ⊆ ownCells (thr d L) := by
  intro g hg
  obtain ⟨s, hs, rfl⟩ := Finset.mem_map.mp hg
  exact mem_ownCells.mpr ⟨rfl, semSet_scoped s hs⟩

theorem bufSet_owner (L : grid0.Coords) : ∀ r ∈ bufSet, (refOf L r).owner = .proc (.scVector (cV L) (jV L)) := by
  intro r hr
  unfold bufSet at hr
  simp only [Finset.mem_insert, Finset.mem_singleton] at hr
  rcases hr with rfl | rfl | rfl | rfl | rfl | rfl | rfl | rfl | rfl <;> rfl

theorem refs_sub (L : grid0.Coords) : bufSet.map (refOf L) ⊆ ownRefs (τ := τ) (sig := sig) (.scVector (cV L) (jV L)) := by
  intro b hb
  obtain ⟨r, hr, rfl⟩ := Finset.mem_map.mp hb
  exact mem_ownRefs_of_owner (bufSet_owner L r hr)

/-- What a subcore owns besides the task's semaphores. -/
def semRest (d : Dev nD) (L : grid0.Coords) : sProp 𝕄 := bigSep (ownCells (thr d L) \ semSet.map (cellOf d L)) fun g => semVal g 0
/-- What a subcore owns besides the task's scratches. -/
def bufRest (d : Dev nD) (L : grid0.Coords) : sProp 𝕄 :=
  bigSep (ownRefs (τ := τ) (sig := sig) (.scVector (cV L) (jV L)) \ bufSet.map (refOf L)) fun b => iprop(∃ f, ((d, b) : Loc nD τ sig) ↦{fullShare} f)

/-- A subcore's semaphores are the task's twelve and the rest. -/
theorem ownSems0_thr (d : Dev nD) (L : grid0.Coords) : (ownSems0 (thr d L) : sProp 𝕄)
    = iprop((sem0 d L (.dma cc0_scoped0.sem) ∗ sem0 d L (.dma cc0_scoped1.sem) ∗ sem0 d L (.dma cc0_scoped2.sem) ∗ sem0 d L (.dma cc0_scoped3.sem) ∗ sem0 d L (.dma cc0_scoped4.sem) ∗ sem0 d L (.dma cc0_scoped5.sem) ∗ sem0 d L (.dma cc0_scoped6.sem) ∗ sem0 d L (.dma cc0_scoped7.sem) ∗ sem0 d L (.dma cc0_scoped8.sem) ∗ sem0 d L (.dma cc0_scoped9.sem) ∗ sem0 d L (.dma cc0_scoped10.sem) ∗ sem0 d L (.dma cc0_scoped11.sem)) ∗ semRest d L) := by
  unfold SparseCore.Cfg.ownSems0 semRest
  rw [SparseCore.bigSep_sdiff_split' (cells_sub d L), SparseCore.bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- A subcore's buffers are the task's nine scratches, at some contents, and the rest. -/
theorem ownBufs_thr (d : Dev nD) (L : grid0.Coords) : (ownBufs (thr d L) : sProp 𝕄)
    = iprop(((∃ f, w14.view.loc (thr d L) ↦{fullShare} f) ∗ (∃ f, w15.view.loc (thr d L) ↦{fullShare} f) ∗ (∃ f, w16.view.loc (thr d L) ↦{fullShare} f) ∗ (∃ f, w17.view.loc (thr d L) ↦{fullShare} f) ∗ (∃ f, w18.view.loc (thr d L) ↦{fullShare} f) ∗ (∃ f, w19.view.loc (thr d L) ↦{fullShare} f) ∗ (∃ f, w20.view.loc (thr d L) ↦{fullShare} f) ∗ (∃ f, w21.view.loc (thr d L) ↦{fullShare} f) ∗ (∃ f, w22.view.loc (thr d L) ↦{fullShare} f)) ∗ bufRest d L) := by
  unfold SparseCore.Cfg.ownBufs bufRest
  refine (SparseCore.bigSep_sdiff_split' (refs_sub L)).trans ?_
  rw [SparseCore.bigSep_map]
  unfold bufSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## What the launch hands a task -/

/-- An array of the device's memory. -/
abbrev rf (b : Ref sig .tc) : DevRef τ sig := Proc.devRef .tc b

/-- The ten arrays the tasks read, at a share. -/
def inP (d : Dev nD) (q : PosShare TreeShare) (A : Valuation τ sig (Elt F)) : sProp 𝕄 :=
  iprop((((d, rf main_v0) : Loc nD τ sig) ↦{q} A (rf main_v0)) ∗ (((d, rf main_v1) : Loc nD τ sig) ↦{q} A (rf main_v1)) ∗ (((d, rf main_v2) : Loc nD τ sig) ↦{q} A (rf main_v2)) ∗ (((d, rf main_v3) : Loc nD τ sig) ↦{q} A (rf main_v3)) ∗ (((d, rf main_v4) : Loc nD τ sig) ↦{q} A (rf main_v4)) ∗ (((d, rf main_v5) : Loc nD τ sig) ↦{q} A (rf main_v5)) ∗ (((d, rf main_v6) : Loc nD τ sig) ↦{q} A (rf main_v6)) ∗ (((d, rf main_v7) : Loc nD τ sig) ↦{q} A (rf main_v7)) ∗ (((d, rf main_v8) : Loc nD τ sig) ↦{q} A (rf main_v8)) ∗ (((d, rf main_v9) : Loc nD τ sig) ↦{q} A (rf main_v9)))

/-- The rows a task writes. -/
def rowSet (w : ℕ) : Finset S32x16.Idx := Finset.univ.filter fun i => (i 0).val = w

/-- A task's rows of the two results. -/
def outP (d : Dev nD) (w : ℕ) (f12 f13 : S32x16.Idx → F .f32) : sProp 𝕄 :=
  iprop((((d, rf main_v10_0) : Loc nD τ sig) ↦[rowSet w]{fullShare} f12) ∗ (((d, rf main_v10_1) : Loc nD τ sig) ↦[rowSet w]{fullShare} f13))

/-- The share of the inputs that goes to subcore `s` of core `c`. -/
def shr (c s : ℕ) : PosShare TreeShare :=
  Transfers.dealOf (Transfers.dealOf fullShare (Finset.univ : Finset (Fin 2)) (Fin.ofNat 2 c)) (Finset.univ : Finset (Fin 16)) (Fin.ofNat 16 s)

/-- What subcore `s` of core `c` holds: its share of the inputs and its row of the results. -/
def part (d : Dev nD) (A : Valuation τ sig (Elt F)) (f12 f13 : S32x16.Idx → F .f32) (c s : ℕ) : sProp 𝕄 :=
  iprop(inP d (shr c s) A ∗ outP d (2 * s + c) f12 f13)

/-- What the tasks compute from the arrays. -/
def harmV (A : Valuation τ sig (Elt F)) : S32x16.Idx → F .f32 :=
  harmOut (A (rf main_v0)) (A (rf main_v1)) (A (rf main_v2)) (A (rf main_v3)) (A (rf main_v4)) (A (rf main_v5))
def scatV (A : Valuation τ sig (Elt F)) : S32x16.Idx → F .f32 :=
  scatOut (A (rf main_v6)) (A (rf main_v7)) (A (rf main_v8)) (A (rf main_v9))

instance part_storable (d : Dev nD) (A : Valuation τ sig (Elt F)) (f12 f13 : S32x16.Idx → F .f32) (c s : ℕ) :
    BI.Storable (upEmb : UEmb _ 𝕄) (part d A f12 f13 c s) := by
  unfold part inP outP; infer_instance

/-- The call's payloads: a core takes its sixteen tasks' parts and brings them back with the results' rows computed. -/
def P (A : Dev nD → Valuation τ sig (Elt F)) : (K (F := F)).Pay (nD := nD) (Val := Elt F) (Name := ℕ) (U := UU) where
  st := fun _ d c => bigSep (Finset.univ : Finset (Fin 16)) fun s => part d (A d) (A d (rf main_v10_0)) (A d (rf main_v10_1)) c.val s.val
  dn := fun _ d c => bigSep (Finset.univ : Finset (Fin 16)) fun s => part d (A d) (harmV (A d)) (scatV (A d)) c.val s.val
  go := fun _ d c i => part d (A d) (A d (rf main_v10_0)) (A d (rf main_v10_1)) c.val i.val
  td := fun _ d c i => part d (A d) (harmV (A d)) (scatV (A d)) c.val i.val
  x := fun _ _ => iprop(emp)

instance P_storable (A : Dev nD → Valuation τ sig (Elt F)) : (P A).IsStorable where
  st _ d c := by unfold P; infer_instance
  dn _ d c := by unfold P; infer_instance
  go _ d c i := by unfold P; infer_instance
  td _ d c i := by unfold P; infer_instance

/-- The row a task writes, as a set of the result's positions. -/
theorem row_set (L : grid0.Coords) : ((outRow w12 L).view.set : Finset S32x16.Idx) = rowSet (2 * (L 1).val + (L 0).val) := by
  ext i
  unfold rowSet
  simp only [Finset.mem_filter, Finset.mem_univ, true_and]
  constructor
  · intro hi
    obtain ⟨x, -, rfl⟩ := Finset.mem_map.mp hi
    exact (row_emb L x).1
  · intro hi
    refine Finset.mem_map.mpr ⟨(fun | 0 => (i 1 : Fin 16) : S16.Idx), Finset.mem_univ _, ?_⟩
    funext a
    apply Fin.ext
    match a with
    | 0 => exact (row_emb L _).1.trans hi.symm
    | 1 => exact (row_emb L _).2

/-- One task, from what the launch hands it to what it hands back. -/
theorem tile_body (d : Dev nD) (L : grid0.Coords) (A : Valuation τ sig (Elt F)) (hA : ∀ j, (A (rf main_v4) j : BitVec 32).toNat < 1024)
    (O : CellTallies nD τ sig (HIx 1)) (W : Waits sig (HIx 1)) (hO : ∀ g, O g none = 0) :
    iprop(levAts (K (F := F)).L (K (F := F)).lev ∗ emp ∗ part d A (A (rf main_v10_0)) (A (rf main_v10_1)) (L 0).val (L 1).val
        ∗ scopedBufs (thr d L) ∗ scopedSems0 (thr d L) ∗ owes (thr d L) O W)
      ⊢ wp (M := 𝕄) frame (wpE (defs₀ (F := F)) 𝒱₀ (thr d L) none) Set.univ (cc0__sc_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11)
        fun _ => iprop(part d A (harmV A) (scatV A) (L 0).val (L 1).val ∗ scopedBufs (thr d L) ∗ scopedSems0 (thr d L)
          ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_thr, ownBufs_thr]
  unfold part inP outP
  rw [← row_set L]
  iintro ⟨#Hlv, -, ⟨⟨H2, H3, H4, H5, H6, H7, H8, H9, H10, H11⟩, H12, H13⟩, ⟨⟨H14, H15, H16, H17, H18, H19, H20, H21, H22⟩, Hbr⟩,
    ⟨⟨Hs0, Hs1, Hs2, Hs3, Hs4, Hs5, Hs6, Hs7, Hs8, Hs9, Hs10, Hs11⟩, Hsr⟩, HO⟩
  ihave Hmw := ((K (F := F)).mayWaits_none (thr := thr d L) hO) $$ Hlv
  ihave Hwp := (tile_run d L O W (shr (L 0).val (L 1).val) (A (rf main_v0)) (A (rf main_v1)) (A (rf main_v6)) (A (rf main_v7)) (A (rf main_v2)) (A (rf main_v3))
    (A (rf main_v4)) (A (rf main_v5)) (A (rf main_v8)) (A (rf main_v9)) (A (rf main_v10_0)) (A (rf main_v10_1)) hA)
    $$ [Hmw H2 H3 H4 H5 H6 H7 H8 H9 H10 H11 H12 H13 H14 H15 H16 H17 H18 H19 H20 H21 H22 Hs0 Hs1 Hs2 Hs3 Hs4 Hs5 Hs6 Hs7 Hs8 Hs9 Hs10 Hs11 HO]
  · isplitl [Hmw]; · iexact Hmw
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexists W; isplitr
    · ipureintro; exact fun p hp => Or.inl hp
    · iexact HO
  iapply (wp_wand _ _ _) $$ Hwp
  iintro %u ⟨-, H2, H3, H4, H5, H6, H7, H8, H9, H10, H11, H12, H13, H14, H15, H16, H17, H18, H19, H20, H21, H22,
    Hs0, Hs1, Hs2, Hs3, Hs4, Hs5, Hs6, Hs7, Hs8, Hs9, Hs10, Hs11, HO⟩
  isplitl [H2 H3 H4 H5 H6 H7 H8 H9 H10 H11 H12 H13]
  · isplitl [H2 H3 H4 H5 H6 H7 H8 H9 H10 H11]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    iexact H13
  isplitl [H14 H15 H16 H17 H18 H19 H20 H21 H22 Hbr]
  · isplitr [Hbr]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    iexact Hbr
  isplitl [Hs0 Hs1 Hs2 Hs3 Hs4 Hs5 Hs6 Hs7 Hs8 Hs9 Hs10 Hs11 Hsr]
  · isplitr [Hsr]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hsr
  iexact HO

/-! ## The launch's obligations -/

/-- A grid coordinate from a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_body (F := F) (coordsV c s) (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5 cc0_scoped6 cc0_scoped7 cc0_scoped8 cc0_scoped9 cc0_scoped10 cc0_scoped11) ⟨⟩ c s := rfl

theorem obl_post {t : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes t O W')
      ⊢ iprop(X ∗ Y ∗ Z ∗ ∃ W', ⌜∀ p ∈ W', p ∈ W ∨ p.2 = none ∨ p.2 = some q⌝ ∗ owes t O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- Every task of the call meets its obligation, from arrays whose first index words are below 1024. -/
theorem tileObl (A : Dev nD → Valuation τ sig (Elt F)) (hA : ∀ d j, (A d (rf main_v4) j : BitVec 32).toNat < 1024) :
    (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (A d) (hA d) O W hO).trans (wp_mono frame _ _ fun _ => obl_post)

/-- A core deals its tasks' parts as it holds them. -/
theorem vecSplit (A : Dev nD → Valuation τ sig (Elt F)) : (K (F := F)).VecSplit' (P A) 0 := by
  intro d c
  show (bigSep (Finset.univ : Finset (Fin 16)) fun s => part d (A d) (A d (rf main_v10_0)) (A d (rf main_v10_1)) c.val s.val)
    ⊢ |={Set.univ}=> iprop((bigSep (Finset.univ : Finset (Fin 16)) fun s => part d (A d) (A d (rf main_v10_0)) (A d (rf main_v10_1)) c.val s.val)
      ∗ ((bigSep (Finset.univ : Finset (Fin 16)) fun s => part d (A d) (harmV (A d)) (scatV (A d)) c.val s.val)
        -∗ (bigSep (Finset.univ : Finset (Fin 16)) fun s => part d (A d) (harmV (A d)) (scatV (A d)) c.val s.val)))
  iintro H; imodintro
  isplitl [H]; · iexact H
  iintro H; iexact H

end Cert.Proof.KI
-- ==== Proof.KIRun.lean ====
/-
  The whole program: its reshapes, the call over the tasks, the sums and quotients of what the tasks wrote, and what every
  array of the device holds at the end.
-/
module

public import proofs.«01_k».proof.Proof.KILaunch
public import Idealize.ShloMosaic.Lib.Pipeline.Frame

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq tcRefs)
open Idealize.ShloMosaic.Pipeline (ucRefs)

variable {F : FTy → Type} [FloatOps F]

local notation "𝕄" => MT nD τ sig (HIx 1) (Elt F) ℕ UU ℕ

/-- A separating conjunction's brackets move to the right. -/
theorem sep_shift (X Y Z : sProp 𝕄) : iprop((X ∗ Y) ∗ Z) = iprop(X ∗ Y ∗ Z) := equiv_iff.mp ⟨Idealize.SL.BI.sep_assoc, Idealize.SL.BI.sep_assoc'⟩
/-- Nothing held any number of times is nothing. -/
theorem nothing_held {ι : Type} (s : Finset ι) : (bigSep s fun _ => iprop(emp)) = (iprop(emp) : sProp 𝕄) := bigSep_emp_const s

/-! ## The inputs and the results dealt to the tasks and put back -/

theorem inP_deal {ι : Type} [LinearOrder ι] (s : Finset ι) (hs : s.Nonempty) (d : Dev nD) (q : PosShare TreeShare) (A : Valuation τ sig (Elt F)) :
    inP d q A = bigSep s fun i => inP d (Transfers.dealOf q s i) A := by
  unfold inP
  simp only [bigSep_sep']
  simp only [← Transfers.pointsTo_deal s hs q]

/-- The rows of one core's tasks. -/
def coreSet (c : ℕ) : Finset S32x16.Idx := (Finset.univ : Finset (Fin 16)).biUnion fun s => rowSet (2 * s.val + c)

theorem rows_apart (v w : ℕ) (h : v ≠ w) : Disjoint (rowSet v) (rowSet w) :=
  Finset.disjoint_left.mpr fun _ hv hw => h ((Finset.mem_filter.mp hv).2.symm.trans (Finset.mem_filter.mp hw).2)

theorem mem_coreSet (c : ℕ) (i : S32x16.Idx) (h : i ∈ coreSet c) : ∃ s < 16, (i 0).val = 2 * s + c := by
  obtain ⟨s, -, hs⟩ := Finset.mem_biUnion.mp h
  exact ⟨s.val, s.isLt, (Finset.mem_filter.mp hs).2⟩

theorem cores_cover : (Finset.univ : Finset (Fin 2)).biUnion (fun c => coreSet c.val) = Finset.univ := by
  ext i
  simp only [Finset.mem_univ, iff_true]
  have hi : (i 0).val < 32 := (i 0).isLt
  refine Finset.mem_biUnion.mpr ⟨⟨(i 0).val % 2, by omega⟩, Finset.mem_univ _, Finset.mem_biUnion.mpr ⟨⟨(i 0).val / 2, by omega⟩, Finset.mem_univ _,
    Finset.mem_filter.mpr ⟨Finset.mem_univ _, ?_⟩⟩⟩
  show (i 0).val = 2 * ((i 0).val / 2) + (i 0).val % 2
  omega

/-- A result, whole, is the tasks' rows of it: first among the cores, then among a core's tasks. -/
theorem rows_deal0 (d : Dev nD) (f : S32x16.Idx → F .f32) :
    ((((d, rf main_v10_0) : Loc nD τ sig) ↦{fullShare} f) : sProp 𝕄)
      = bigSep (Finset.univ : Finset (Fin 2)) fun c => bigSep (Finset.univ : Finset (Fin 16)) fun s =>
          (((d, rf main_v10_0) : Loc nD τ sig) ↦[rowSet (2 * s.val + c.val)]{fullShare} f) := by
  have h1 := pointsTo_biUnion (Ix := HIx 1) (Name := ℕ) (U := UU) (Lvl := ℕ) (q := fullShare) (Val := Elt F) (f := f) (ℓ := ((d, rf main_v10_0) : Loc nD τ sig))
    (Finset.univ : Finset (Fin 2)) (fun c => coreSet c.val) fun c _ c' _ h => Finset.disjoint_left.mpr fun i hi hi' => by
      obtain ⟨s, hs, e⟩ := mem_coreSet _ i hi
      obtain ⟨s', hs', e'⟩ := mem_coreSet _ i hi'
      exact h (Fin.ext (by omega))
  rw [cores_cover] at h1
  refine h1.trans (bigSep_congr fun c _ => ?_)
  exact pointsTo_biUnion _ _ fun s _ s' _ h => rows_apart _ _ fun e => h (Fin.ext (by omega))

/-- The other result, whole, is the tasks' rows of it: first among the cores, then among a core's tasks. -/
theorem rows_deal1 (d : Dev nD) (f : S32x16.Idx → F .f32) :
    ((((d, rf main_v10_1) : Loc nD τ sig) ↦{fullShare} f) : sProp 𝕄)
      = bigSep (Finset.univ : Finset (Fin 2)) fun c => bigSep (Finset.univ : Finset (Fin 16)) fun s =>
          (((d, rf main_v10_1) : Loc nD τ sig) ↦[rowSet (2 * s.val + c.val)]{fullShare} f) := by
  have h1 := pointsTo_biUnion (Ix := HIx 1) (Name := ℕ) (U := UU) (Lvl := ℕ) (q := fullShare) (Val := Elt F) (f := f) (ℓ := ((d, rf main_v10_1) : Loc nD τ sig))
    (Finset.univ : Finset (Fin 2)) (fun c => coreSet c.val) fun c _ c' _ h => Finset.disjoint_left.mpr fun i hi hi' => by
      obtain ⟨s, hs, e⟩ := mem_coreSet _ i hi
      obtain ⟨s', hs', e'⟩ := mem_coreSet _ i hi'
      exact h (Fin.ext (by omega))
  rw [cores_cover] at h1
  refine h1.trans (bigSep_congr fun c _ => ?_)
  exact pointsTo_biUnion _ _ fun s _ s' _ h => rows_apart _ _ fun e => h (Fin.ext (by omega))

/-- The inputs and the two results, whole, are the thirty-two tasks' parts. -/
theorem parts_join (d : Dev nD) (A : Valuation τ sig (Elt F)) (f12 f13 : S32x16.Idx → F .f32) :
    (iprop(inP d fullShare A ∗ (((d, rf main_v10_0) : Loc nD τ sig) ↦{fullShare} f12) ∗ (((d, rf main_v10_1) : Loc nD τ sig) ↦{fullShare} f13)) : sProp 𝕄)
      = bigSep (Finset.univ : Finset (Fin 2)) fun c => bigSep (Finset.univ : Finset (Fin 16)) fun s => part d A f12 f13 c.val s.val := by
  have hs (c : Fin 2) (s : Fin 16) : shr c.val s.val = Transfers.dealOf (Transfers.dealOf fullShare (Finset.univ : Finset (Fin 2)) c) (Finset.univ : Finset (Fin 16)) s := by
    unfold shr
    rw [show Fin.ofNat 2 c.val = c from Fin.ext (Nat.mod_eq_of_lt c.isLt), show Fin.ofNat 16 s.val = s from Fin.ext (Nat.mod_eq_of_lt s.isLt)]
  have hin : (inP d fullShare A : sProp 𝕄)
      = bigSep (Finset.univ : Finset (Fin 2)) fun c => bigSep (Finset.univ : Finset (Fin 16)) fun s => inP d (shr c.val s.val) A := by
    rw [inP_deal (Finset.univ : Finset (Fin 2)) ⟨0, Finset.mem_univ _⟩]
    refine bigSep_congr fun c _ => ?_
    rw [inP_deal (Finset.univ : Finset (Fin 16)) ⟨0, Finset.mem_univ _⟩]
    exact bigSep_congr fun s _ => by rw [hs]
  unfold part outP
  simp only [bigSep_sep']
  rw [← rows_deal0, ← rows_deal1, ← hin]

/-! ## The host program -/

/-- The reshapes before the call. -/
def ops1 : List (HloOp τ sig (Elt F)) :=
  [StableHlo.reshape main_arg1 main_v0 (rfl : (.f32 : EltTy) = .f32) shapeCasts_S64x4x1024x2_S256x2048,
    StableHlo.reshape main_arg5 main_v1 (rfl : (.f32 : EltTy) = .f32) shapeCasts_S64x4x1024x2_S256x2048,
    StableHlo.reshape main_arg3 main_v2 (rfl : (.f32 : EltTy) = .f32) shapeCasts_S64x4x16384x2_S256x32768,
    StableHlo.reshape main_arg7 main_v3 (rfl : (.f32 : EltTy) = .f32) shapeCasts_S64x4x16384x2_S256x32768,
    StableHlo.reshape main_arg8 main_v4 (rfl : (.i32 : EltTy) = .i32) shapeCasts_S2x8192x2_S32768,
    StableHlo.reshape main_arg9 main_v5 (rfl : (.i32 : EltTy) = .i32) shapeCasts_S2x8192x2_S32768,
    StableHlo.reshape main_arg0 main_v6 (rfl : (.f32 : EltTy) = .f32) shapeCasts_S64x4x1024x2_S256x2048,
    StableHlo.reshape main_arg4 main_v7 (rfl : (.f32 : EltTy) = .f32) shapeCasts_S64x4x1024x2_S256x2048,
    StableHlo.reshape main_arg2 main_v8 (rfl : (.f32 : EltTy) = .f32) shapeCasts_S64x4x4096_S256x4096,
    StableHlo.reshape main_arg6 main_v9 (rfl : (.f32 : EltTy) = .f32) shapeCasts_S64x4x4096_S256x4096]
/-- The sums and quotients after it. -/
def ops2 : List (HloOp τ sig (Elt F)) :=
  [StableHlo.nullary main_cst (constant S_ .f32 0x00000000#32),
    StableHlo.binary main_v10_1 main_cst main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_0 (constant S_ .f32 0x43800000#32),
    StableHlo.binary main_v11 main_cst_0 main_v12 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v10_0 main_cst_1 main_v13 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_2 (constant S_ .f32 0x4A800000#32),
    StableHlo.binary main_v13 main_cst_2 main_v14 (Host.divf : (⟨S_, .f32⟩ : BufTy).Contents (Elt F) → (⟨S_, .f32⟩ : BufTy).Contents (Elt F) → (⟨S_, .f32⟩ : BufTy).Contents (Elt F))]

theorem ops1_sub : ∀ op ∈ ops1 (F := F), op.bufs ⊆ ucRefs τ sig := by
  intro op h
  refine Pipeline.sub_ucRefs op ?_
  revert op
  simp [ops1]
theorem ops2_sub : ∀ op ∈ ops2 (F := F), op.bufs ⊆ ucRefs τ sig := by
  intro op h
  refine Pipeline.sub_ucRefs op ?_
  revert op
  simp [ops2]
theorem ops1_fresh : ∀ op ∈ ops1 (F := F), op.fresh = ∅ := by
  simp only [ops1, List.forall_mem_cons]
  exact ⟨rfl, rfl, rfl, rfl, rfl, rfl, rfl, rfl, rfl, rfl, fun _ h => absurd h List.not_mem_nil⟩
theorem ops2_fresh : ∀ op ∈ ops2 (F := F), op.fresh = ∅ := by
  simp only [ops2, List.forall_mem_cons]
  exact ⟨rfl, rfl, rfl, rfl, rfl, rfl, rfl, rfl, fun _ h => absurd h List.not_mem_nil⟩

/-- The program is the reshapes, the call, the sums and quotients. -/
theorem main_eq (d : Dev nD) : main (F := F) d = (seq ops1 >>= fun _ => sc.run d 0 >>= fun _ => seq ops2 >>= fun _ => pure ⟨⟩) := by
  unfold main ops1 ops2
  simp only [StableHlo.seq, bind_assoc, pure_bind]

variable (m : (ℓ : Loc nD τ sig) → Buf (Elt F) ℓ) (ρ : Dev nD → PrngReg)

/-- What the arrays hold at the launch, -/
def V0 (d : Dev nD) : Valuation τ sig (Elt F) := fun b => m (d, b)
/-- at the call, -/
def V1 (d : Dev nD) : Valuation τ sig (Elt F) := after ops1 (V0 m d)
/-- after it, -/
def V2 (d : Dev nD) : Valuation τ sig (Elt F) :=
  Function.update (Function.update (V1 m d) (rf main_v10_0) (harmV (V1 m d))) (rf main_v10_1) (scatV (V1 m d))
/-- and at the end. -/
def V3 (d : Dev nD) : Valuation τ sig (Elt F) := after ops2 (V2 m d)

theorem V2_harm (d : Dev nD) : V2 m d (rf main_v10_0) = harmV (V1 m d) := by
  unfold V2
  rw [Function.update_of_ne (show rf main_v10_0 ≠ rf main_v10_1 by decide), Function.update_self]
theorem V2_scat (d : Dev nD) : V2 m d (rf main_v10_1) = scatV (V1 m d) := by
  unfold V2
  rw [Function.update_self]
theorem V2_ne (d : Dev nD) (b : DevRef τ sig) (h0 : b ≠ rf main_v10_0) (h1 : b ≠ rf main_v10_1) : V2 m d b = V1 m d b := by
  unfold V2
  rw [Function.update_of_ne h1, Function.update_of_ne h0]

/-- The arrays the call takes. -/
def callSet : Finset (DevRef τ sig) := {rf main_v0, rf main_v1, rf main_v2, rf main_v3, rf main_v4, rf main_v5, rf main_v6, rf main_v7, rf main_v8, rf main_v9, rf main_v10_0, rf main_v10_1}

theorem callSet_sub : callSet ⊆ ucRefs τ sig := by
  intro b hb
  unfold callSet at hb
  simp only [Finset.mem_insert, Finset.mem_singleton] at hb
  refine Finset.mem_filter.mpr ⟨?_, ?_⟩
  · rcases hb with rfl | rfl | rfl | rfl | rfl | rfl | rfl | rfl | rfl | rfl | rfl | rfl <;> exact StableHlo.devRef_mem_tcRefs _
  · rcases hb with rfl | rfl | rfl | rfl | rfl | rfl | rfl | rfl | rfl | rfl | rfl | rfl <;> decide

theorem held_call (d : Dev nD) (A : Valuation τ sig (Elt F)) : (held (d.tc : Thread nD τ) callSet A : sProp 𝕄)
    = iprop(inP d fullShare A ∗ (((d, rf main_v10_0) : Loc nD τ sig) ↦{fullShare} A (rf main_v10_0))
        ∗ (((d, rf main_v10_1) : Loc nD τ sig) ↦{fullShare} A (rf main_v10_1))) := by
  unfold held callSet inP
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  simp only [sep_shift]

theorem rest_call (d : Dev nD) : (held (d.tc : Thread nD τ) (ucRefs τ sig \ callSet) (V1 m d) : sProp 𝕄)
    = held (d.tc : Thread nD τ) (ucRefs τ sig \ callSet) (V2 m d) := by
  unfold held
  refine bigSep_congr fun b hb => ?_
  have hb' := (Finset.mem_sdiff.mp hb).2
  rw [V2_ne m d b (fun e => hb' (e ▸ by decide)) (fun e => hb' (e ▸ by decide))]

theorem inP_V2 (d : Dev nD) : (inP d fullShare (V2 m d) : sProp 𝕄) = inP d fullShare (V1 m d) := by
  unfold inP
  rw [V2_ne m d (rf main_v0) (by decide) (by decide), V2_ne m d (rf main_v1) (by decide) (by decide), V2_ne m d (rf main_v2) (by decide) (by decide), V2_ne m d (rf main_v3) (by decide) (by decide), V2_ne m d (rf main_v4) (by decide) (by decide), V2_ne m d (rf main_v5) (by decide) (by decide), V2_ne m d (rf main_v6) (by decide) (by decide), V2_ne m d (rf main_v7) (by decide) (by decide), V2_ne m d (rf main_v8) (by decide) (by decide), V2_ne m d (rf main_v9) (by decide) (by decide)]

/-- What the call is handed, and what it hands back. -/
theorem st_eq (d : Dev nD) : (bigSep Finset.univ fun c : Fin ((K (F := F)).nCore 0) => (P (V1 m)).st 0 d c) = (held (d.tc : Thread nD τ) callSet (V1 m d) : sProp 𝕄) := by
  rw [held_call]
  exact (parts_join d (V1 m d) _ _).symm
theorem dn_eq (d : Dev nD) : (bigSep Finset.univ fun c : Fin ((K (F := F)).nCore 0) => (P (V1 m)).dn 0 d c) = (held (d.tc : Thread nD τ) callSet (V2 m d) : sProp 𝕄) := by
  rw [held_call, inP_V2, V2_harm, V2_scat]
  exact (parts_join d (V1 m d) _ _).symm

/-! ## The launch -/

def u₀ : UU := (initOf (K (F := F)).hsCells (K (F := F)).hsToks, 1)

theorem hu₀ (A : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P A).x q t) := by
  unfold u₀
  iintro Hu
  ihave H := (ownU_pair _ _) $$ Hu
  icases H with ⟨HH, -⟩
  imodintro
  isplitl [HH]; · iexact HH
  isplitr; · rw [nothing_held]; iempintro
  unfold P; dsimp only
  rw [show (bigSep Finset.univ fun _ : Thread nD τ => bigSep Finset.univ fun _ : Fin 1 => (iprop(emp) : sProp 𝕄)) = iprop(emp) from by
    rw [bigSep_congr fun _ _ => nothing_held _, nothing_held]]
  iempintro

/-- The TensorCore's program from the launch's arrays to the end's. -/
theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main (F := F) d)
          fun _ => iprop((K (F := F)).tcSt EH d 1 ∗ held (d.tc : Thread nD τ) (ucRefs τ sig) (V3 m d) ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V0 m d)
    from Pipeline.unscopedBufs_held d (V0 m d), main_eq]
  iintro ⟨#Hctx, Hst, ⟨Hb, Hheld, Hts, -⟩, -⟩
  iapply (StableHlo.wp_seq 𝒱 (bd := none) (E := Set.univ) d (ucRefs τ sig) _ ops1 ops1_sub ops1_fresh (V0 m d)) $$ [Hb Hheld]
  · isplitl [Hb]; · iexact Hb
    iexact Hheld
  iintro ⟨Hb, Hheld0⟩
  ihave Hheld := (Entails.of_eq (show (held (d.tc : Thread nD τ) (ucRefs τ sig) (after ops1 (V0 m d)) : sProp 𝕄) = held (d.tc : Thread nD τ) (ucRefs τ sig) (V1 m d) from rfl)) $$ Hheld0
  ihave Hh := (Entails.of_eq (StableHlo.held_sub_split (d.tc : Thread nD τ) callSet_sub (V1 m d))) $$ Hheld
  icases Hh with ⟨Hcall, Hrest⟩
  rw [wp_bind]
  iapply ((K (F := F)).wp_run (D (F := F)) 𝒱 (EH := EH) (P := P (V1 m)) κ d 0) $$ [Hst Hb Hcall Hrest Hts]
  isplitr; · iexact Hctx
  isplitl [Hst]; · iexact Hst
  isplitl [Hcall]
  · rw [st_eq]; iexact Hcall
  iintro ⟨Hst, Hdn⟩
  ihave Hcall := (Entails.of_eq (dn_eq m d)) $$ Hdn
  ihave Hrest' := (Entails.of_eq (rest_call m d)) $$ Hrest
  iapply (StableHlo.wp_seq 𝒱 (bd := none) (E := Set.univ) d (ucRefs τ sig) _ ops2 ops2_sub ops2_fresh (V2 m d)) $$ [Hb Hcall Hrest']
  · isplitl [Hb]; · iexact Hb
    rw [StableHlo.held_sub_split (d.tc : Thread nD τ) callSet_sub (V2 m d)]
    isplitl [Hcall]; · iexact Hcall
    iexact Hrest'
  iintro ⟨Hb, Hheld⟩
  rw [wp_pure]; imodintro
  isplitl [Hst]; · iexact Hst
  isplitl [Hheld]; · iexact Hheld
  isplitl [Hb]; · iexact Hb
  iexact Hts

/-- The arrays a final memory shows. -/
def fq (d : Dev nD) (s' : Phys nD τ sig (Elt F)) : Prop := ∀ b ∈ ucRefs τ sig, s'.mem.mem (d, b) = V3 m d b

theorem hfin (d : Dev nD) (s' : Phys nD τ sig (Elt F)) :
    iprop(held (d.tc : Thread nD τ) (ucRefs τ sig) (V3 m d) ∗ SI s') ⊢ (⌜fq m d s'⌝ : sProp 𝕄) := by
  refine (Idealize.SL.BI.Laws.forall_intro fun b => ?_).trans Idealize.SL.BI.Laws.pure_forall.2
  by_cases hb : b ∈ ucRefs τ sig
  · unfold held
    rw [SparseCore.bigSep_erase' hb]
    iintro ⟨⟨Hx, -⟩, HSI⟩
    ihave H := (SI_pointsTo_agree (st := s') (ℓ := ((d, b) : Loc nD τ sig)) (I := Finset.univ) (q := fullShare) (f := V3 m d b)) $$ [HSI Hx]
    · isplitl [HSI] <;> iassumption
    icases H with %hx
    ipureintro; exact fun _ => funext fun i => hx i (Finset.mem_univ i)
  · iintro -
    ipureintro; exact fun h => absurd h hb

/-- The program's run: it ends with every array of the device as computed and every semaphore at zero. -/
theorem run_main [∀ e, Nonempty (Elt F e)] (hpre : ∀ d j, (V1 m d (rf main_v4) j : BitVec 32).toNat < 1024) :
    θ_run (Cert.KernelIdeal.defs (F := F)) (Cert.KernelIdeal.threads (F := F)) ⟨m, fun _ => 0, ρ⟩
      (fun r => (∀ d : Dev nD, ∀ b ∈ ucRefs τ sig, r.2.mem (d, b) = V3 m d b) ∧ r.2.sem = fun _ => 0) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) hpre)
    (fun q _ => match q with | 0 => SparseCore.Cfg.VecSplit.of_plain (vecSplit (V1 m)))
    m ρ main (fun _ => iprop(emp)) (fun d => held (d.tc : Thread nD τ) (ucRefs τ sig) (V3 m d)) (u₀ (F := F)) (sep_elim_left.trans (hu₀ (V1 m)))
    (hmain m ρ) (fq m) (hfin m) _ (fun _ h hz => ⟨h, hz⟩)

end Cert.Proof.KI
-- ==== Proof.KIFin.lean ====
/-
  What the program's arrays hold at the end, read off: the arguments as at the launch, the two results as sums over the
  tasks' rows.
-/
module

public import proofs.«01_k».proof.Proof.KIRun
public import proofs.«01_k».proof.Proof.Pre

@[expose] public section

set_option maxRecDepth 16384

noncomputable section

namespace Cert.Proof.KI

open Cert.KernelIdeal Cert.KernelIdeal.Gen
open Cert.Proof.Vals

open Idealize.ShloMosaic
open Idealize.ShloMosaic.SparseCore (S V T)
open Idealize.ShloMosaic.SparseCore.Cfg (HIx ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq tcRefs)
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-- The arrays the reshapes write, -/
def W1 : Finset (DevRef τ sig) := {rf main_v0, rf main_v1, rf main_v2, rf main_v3, rf main_v4, rf main_v5, rf main_v6, rf main_v7, rf main_v8, rf main_v9}
/-- and those the sums and quotients write. -/
def W2 : Finset (DevRef τ sig) := {rf main_cst, rf main_v11, rf main_cst_0, rf main_v12, rf main_cst_1, rf main_v13, rf main_cst_2, rf main_v14}

theorem ops1_writes : ∀ op ∈ ops1 (F := F), op.writes ⊆ W1 := by
  simp only [ops1, List.forall_mem_cons]
  exact ⟨(show ({rf main_v0} : Finset (DevRef τ sig)) ⊆ W1 by decide), (show ({rf main_v1} : Finset (DevRef τ sig)) ⊆ W1 by decide), (show ({rf main_v2} : Finset (DevRef τ sig)) ⊆ W1 by decide), (show ({rf main_v3} : Finset (DevRef τ sig)) ⊆ W1 by decide), (show ({rf main_v4} : Finset (DevRef τ sig)) ⊆ W1 by decide), (show ({rf main_v5} : Finset (DevRef τ sig)) ⊆ W1 by decide), (show ({rf main_v6} : Finset (DevRef τ sig)) ⊆ W1 by decide), (show ({rf main_v7} : Finset (DevRef τ sig)) ⊆ W1 by decide), (show ({rf main_v8} : Finset (DevRef τ sig)) ⊆ W1 by decide), (show ({rf main_v9} : Finset (DevRef τ sig)) ⊆ W1 by decide), fun _ h => absurd h List.not_mem_nil⟩
theorem ops2_writes : ∀ op ∈ ops2 (F := F), op.writes ⊆ W2 := by
  simp only [ops2, List.forall_mem_cons]
  exact ⟨(show ({rf main_cst} : Finset (DevRef τ sig)) ⊆ W2 by decide), (show ({rf main_v11} : Finset (DevRef τ sig)) ⊆ W2 by decide), (show ({rf main_cst_0} : Finset (DevRef τ sig)) ⊆ W2 by decide), (show ({rf main_v12} : Finset (DevRef τ sig)) ⊆ W2 by decide), (show ({rf main_cst_1} : Finset (DevRef τ sig)) ⊆ W2 by decide), (show ({rf main_v13} : Finset (DevRef τ sig)) ⊆ W2 by decide), (show ({rf main_cst_2} : Finset (DevRef τ sig)) ⊆ W2 by decide), (show ({rf main_v14} : Finset (DevRef τ sig)) ⊆ W2 by decide), fun _ h => absurd h List.not_mem_nil⟩

/-- An array the program writes nowhere keeps what it held. -/
theorem V3_keep (d : Dev nD) (b : Ref sig .tc) (h1 : rf b ∉ W1) (h2 : rf b ∉ W2) (h3 : rf b ≠ rf main_v10_0) (h4 : rf b ≠ rf main_v10_1) :
    V3 m d (rf b) = m (d, rf b) := by
  unfold V3
  rw [StableHlo.after_of_forall_not_mem ops2 _ fun op ho hb => h2 (ops2_writes op ho hb), V2_ne m d _ h3 h4]
  unfold V1
  rw [StableHlo.after_of_forall_not_mem ops1 _ fun op ho hb => h1 (ops1_writes op ho hb)]
  rfl

/-! What the call is handed: each argument with its planes in rows. -/

theorem V1_v0 (d : Dev nD) : (V1 m d (rf main_v0) : S256x2048.Idx → F .f32) = shapeCast S256x2048 (m (d, rf main_arg1) : S64x4x1024x2.Idx → F .f32) shapeCasts_S64x4x1024x2_S256x2048 := by
  unfold V1 ops1
  after_results
  rfl
theorem V1_v1 (d : Dev nD) : (V1 m d (rf main_v1) : S256x2048.Idx → F .f32) = shapeCast S256x2048 (m (d, rf main_arg5) : S64x4x1024x2.Idx → F .f32) shapeCasts_S64x4x1024x2_S256x2048 := by
  unfold V1 ops1
  after_results
  rfl
theorem V1_v2 (d : Dev nD) : (V1 m d (rf main_v2) : S256x32768.Idx → F .f32) = shapeCast S256x32768 (m (d, rf main_arg3) : S64x4x16384x2.Idx → F .f32) shapeCasts_S64x4x16384x2_S256x32768 := by
  unfold V1 ops1
  after_results
  rfl
theorem V1_v3 (d : Dev nD) : (V1 m d (rf main_v3) : S256x32768.Idx → F .f32) = shapeCast S256x32768 (m (d, rf main_arg7) : S64x4x16384x2.Idx → F .f32) shapeCasts_S64x4x16384x2_S256x32768 := by
  unfold V1 ops1
  after_results
  rfl
theorem V1_v4 (d : Dev nD) : (V1 m d (rf main_v4) : S32768.Idx → BitVec 32) = shapeCast S32768 (m (d, rf main_arg8) : S2x8192x2.Idx → BitVec 32) shapeCasts_S2x8192x2_S32768 := by
  unfold V1 ops1
  after_results
  rfl
theorem V1_v5 (d : Dev nD) : (V1 m d (rf main_v5) : S32768.Idx → BitVec 32) = shapeCast S32768 (m (d, rf main_arg9) : S2x8192x2.Idx → BitVec 32) shapeCasts_S2x8192x2_S32768 := by
  unfold V1 ops1
  after_results
  rfl
theorem V1_v6 (d : Dev nD) : (V1 m d (rf main_v6) : S256x2048.Idx → F .f32) = shapeCast S256x2048 (m (d, rf main_arg0) : S64x4x1024x2.Idx → F .f32) shapeCasts_S64x4x1024x2_S256x2048 := by
  unfold V1 ops1
  after_results
  rfl
theorem V1_v7 (d : Dev nD) : (V1 m d (rf main_v7) : S256x2048.Idx → F .f32) = shapeCast S256x2048 (m (d, rf main_arg4) : S64x4x1024x2.Idx → F .f32) shapeCasts_S64x4x1024x2_S256x2048 := by
  unfold V1 ops1
  after_results
  rfl
theorem V1_v8 (d : Dev nD) : (V1 m d (rf main_v8) : S256x4096.Idx → F .f32) = shapeCast S256x4096 (m (d, rf main_arg2) : S64x4x4096.Idx → F .f32) shapeCasts_S64x4x4096_S256x4096 := by
  unfold V1 ops1
  after_results
  rfl
theorem V1_v9 (d : Dev nD) : (V1 m d (rf main_v9) : S256x4096.Idx → F .f32) = shapeCast S256x4096 (m (d, rf main_arg6) : S64x4x4096.Idx → F .f32) shapeCasts_S64x4x4096_S256x4096 := by
  unfold V1 ops1
  after_results
  rfl

/-! The two results. -/

theorem V3_scat (d : Dev nD) : (V3 m d (rf main_v12) : S_.Idx → F .f32)
    = Host.divf (Host.reduceAdd (scatV (V1 m d)) (constant S_ .f32 0x00000000#32) reducesTo_S32x16_S_d0_1 h_S_) (constant S_ .f32 0x43800000#32) := by
  unfold V3 ops2
  after_results
  rw [V2_scat]
theorem V3_harm (d : Dev nD) : (V3 m d (rf main_v14) : S_.Idx → F .f32)
    = Host.divf (Host.reduceAdd (harmV (V1 m d)) (constant S_ .f32 0x00000000#32) reducesTo_S32x16_S_d0_1 h_S_) (constant S_ .f32 0x4A800000#32) := by
  unfold V3 ops2
  after_results
  rw [V2_harm]

/-- The tasks' index words are the argument's, so below 1024 when the argument's are. -/
theorem words_ok (h : ∀ d i, (m (d, rf main_arg8) i : BitVec 32).toNat < 1024) : ∀ d j, (V1 m d (rf main_v4) j : BitVec 32).toNat < 1024 := by
  intro d j
  have e := congrFun (V1_v4 m d) j
  rw [show (V1 m d (rf main_v4) j : BitVec 32) = shapeCast S32768 (m (d, rf main_arg8) : S2x8192x2.Idx → BitVec 32) shapeCasts_S2x8192x2_S32768 j from e]
  exact h d _

/-- The program runs to the end with its arguments as they were, its results as computed and its semaphores at zero. -/
theorem run_results [∀ e, Nonempty (Elt F e)] (h : ∀ d i, (m (d, rf main_arg8) i : BitVec 32).toNat < 1024) :
    θ_run (Cert.KernelIdeal.defs (F := F)) (Cert.KernelIdeal.threads (F := F)) ⟨m, fun _ => 0, ρ⟩
      (fun r => (∀ d : Dev nD, r.2.mem (d, rf main_v12) = V3 m d (rf main_v12) ∧ r.2.mem (d, rf main_v14) = V3 m d (rf main_v14)
        ∧ r.2.mem (d, rf main_arg0) = m (d, rf main_arg0)
        ∧ r.2.mem (d, rf main_arg1) = m (d, rf main_arg1)
        ∧ r.2.mem (d, rf main_arg2) = m (d, rf main_arg2)
        ∧ r.2.mem (d, rf main_arg3) = m (d, rf main_arg3)
        ∧ r.2.mem (d, rf main_arg4) = m (d, rf main_arg4)
        ∧ r.2.mem (d, rf main_arg5) = m (d, rf main_arg5)
        ∧ r.2.mem (d, rf main_arg6) = m (d, rf main_arg6)
        ∧ r.2.mem (d, rf main_arg7) = m (d, rf main_arg7)
        ∧ r.2.mem (d, rf main_arg8) = m (d, rf main_arg8)
        ∧ r.2.mem (d, rf main_arg9) = m (d, rf main_arg9)) ∧ r.2.sem = fun _ => 0) := by
  refine (θ_run (Cert.KernelIdeal.defs (F := F)) _ _).mono (fun r hr => ⟨fun d => ?_, hr.2⟩) (run_main m ρ (words_ok m h))
  have hm (b : Ref sig .tc) (hb : rf b ∈ ucRefs τ sig) : r.2.mem (d, rf b) = V3 m d (rf b) := hr.1 d _ hb
  have hu (b : Ref sig .tc) (hb : (rf b).isScoped = false) : rf b ∈ ucRefs τ sig :=
    Finset.mem_filter.mpr ⟨StableHlo.devRef_mem_tcRefs _, by rw [hb]; exact Bool.false_ne_true⟩
  exact ⟨hm _ (hu _ (by decide)), hm _ (hu _ (by decide)), (hm _ (hu _ (by decide))).trans (V3_keep m d main_arg0 (by decide) (by decide) (by decide) (by decide)),
    (hm _ (hu _ (by decide))).trans (V3_keep m d main_arg1 (by decide) (by decide) (by decide) (by decide)),
    (hm _ (hu _ (by decide))).trans (V3_keep m d main_arg2 (by decide) (by decide) (by decide) (by decide)),
    (hm _ (hu _ (by decide))).trans (V3_keep m d main_arg3 (by decide) (by decide) (by decide) (by decide)),
    (hm _ (hu _ (by decide))).trans (V3_keep m d main_arg4 (by decide) (by decide) (by decide) (by decide)),
    (hm _ (hu _ (by decide))).trans (V3_keep m d main_arg5 (by decide) (by decide) (by decide) (by decide)),
    (hm _ (hu _ (by decide))).trans (V3_keep m d main_arg6 (by decide) (by decide) (by decide) (by decide)),
    (hm _ (hu _ (by decide))).trans (V3_keep m d main_arg7 (by decide) (by decide) (by decide) (by decide)),
    (hm _ (hu _ (by decide))).trans (V3_keep m d main_arg8 (by decide) (by decide) (by decide) (by decide)),
    (hm _ (hu _ (by decide))).trans (V3_keep m d main_arg9 (by decide) (by decide) (by decide) (by decide))⟩

end Cert.Proof.KI
-- ==== Proof.RefAt.lean ====
/-
  The reference's two gap arrays read at an index, over the extended reals.
-/
module

public import Idealize.ShloMosaic.Lib.Pointwise
public import Idealize.ShloMosaic.Lib.Pipeline.Value
public import proofs.«01_k».proof.Proof.Gen.ReferenceIdeal.Run
public import proofs.«01_k».proof.Proof.Vals

@[expose] public section

set_option maxRecDepth 16384

noncomputable section

namespace Cert.Proof.RefAt

open Cert.ReferenceIdeal Cert.ReferenceIdeal.Gen Cert.ReferenceIdeal.Value Idealize.ShloMosaic Idealize.ShloMosaic.StableHlo
open Cert.Proof.Vals

variable (V0 : Valuation τ sig (Elt Ideal))

/-! ## The arguments -/

abbrev iF : S64x4x1024x2.Idx → EReal := V0 (Proc.devRef .tc main_arg0)
abbrev iP : S64x4x1024x2.Idx → EReal := V0 (Proc.devRef .tc main_arg1)
abbrev iS : S64x4x4096.Idx → EReal := V0 (Proc.devRef .tc main_arg2)
abbrev iL : S64x4x16384x2.Idx → EReal := V0 (Proc.devRef .tc main_arg3)
abbrev tF : S64x4x1024x2.Idx → EReal := V0 (Proc.devRef .tc main_arg4)
abbrev tP : S64x4x1024x2.Idx → EReal := V0 (Proc.devRef .tc main_arg5)
abbrev tS : S64x4x4096.Idx → EReal := V0 (Proc.devRef .tc main_arg6)
abbrev tL : S64x4x16384x2.Idx → EReal := V0 (Proc.devRef .tc main_arg7)
abbrev xi : S2x8192x2.Idx → BitVec 32 := V0 (Proc.devRef .tc main_arg8)
abbrev ks : S2x8192x2.Idx → BitVec 32 := V0 (Proc.devRef .tc main_arg9)

/-! ## The scattering gap -/

theorem catS_lo (x : S64x4x1024.Idx → EReal) (y : S64x4x4096.Idx → EReal) (h : Shape.Concatenates [S64x4x1024, S64x4x4096] S64x4x5120 2)
    (b : Fin 64) (c : Fin 4) (j : Fin 1024) :
    concatenate S64x4x5120 2 [⟨S64x4x1024, x⟩, ⟨S64x4x4096, y⟩] h (ix3 b c ⟨j.val, by omega⟩) = x (ix3 b c j) :=
  concatenate_pair_apply_left 2 x y h _ rfl (ix3 b c j) (by intro a; fin_cases a <;> rfl)

theorem catS_hi (x : S64x4x1024.Idx → EReal) (y : S64x4x4096.Idx → EReal) (h : Shape.Concatenates [S64x4x1024, S64x4x4096] S64x4x5120 2)
    (b : Fin 64) (c : Fin 4) (j : Fin 4096) :
    concatenate S64x4x5120 2 [⟨S64x4x1024, x⟩, ⟨S64x4x4096, y⟩] h (ix3 b c ⟨1024 + j.val, by omega⟩) = y (ix3 b c j) :=
  concatenate_pair_apply_right 2 x y h _ rfl rfl (ix3 b c j)
    (by intro a ha; fin_cases a <;> first | rfl | exact absurd rfl ha) (by show j.val + 1024 = 1024 + j.val; omega)

/-- The gap's first 1024 positions are the finite-difference residuals. -/
theorem scat_lo (b : Fin 64) (c : Fin 4) (j : Fin 1024) :
    (res_main_v17 V0 : S64x4x5120.Idx → EReal) (ix3 b c ⟨j.val, by omega⟩)
      = hv (F := Ideal) (tF V0 (ix4 b c j 0)) (tF V0 (ix4 b c j 1)) (iF V0 (ix4 b c j 0)) (iF V0 (ix4 b c j 1)) := by
  unfold res_main_v17
  refine (catS_lo _ _ _ b c j).trans ?_
  pointwise [hv, c2]

/-- The other 4096 are the differences of target and input. -/
theorem scat_hi (b : Fin 64) (c : Fin 4) (j : Fin 4096) :
    (res_main_v17 V0 : S64x4x5120.Idx → EReal) (ix3 b c ⟨1024 + j.val, by omega⟩)
      = tS V0 (ix3 b c j) - iS V0 (ix3 b c j) := by
  unfold res_main_v17
  refine (catS_hi _ _ _ b c j).trans ?_
  pointwise

/-! ## The harmonic gap -/

/-- The start indices made of a row of words. -/
def starts (w : S8192.Idx → BitVec 32) : S8192x1.Idx → BitVec 32 :=
  broadcastInDim S8192x1 ![0] bcast_S8192_S8192x1_0 (select (cmpi .slt w (broadcastInDim S8192 ![] bcast_S_S8192 (constantI S_ 32 0#32))) (addi w (broadcastInDim S8192 ![] bcast_S_S8192 (constantI S_ 32 1024#32))) w)

/-- The rows of `f` the start indices `X` name, nulled where `M` is set. -/
def pick (M : IVec S1x1x8192x1 1) (X : IVec S8192x1 32) (f : FVec Ideal S64x4x1024x2 .f32) : FVec Ideal S64x4x8192x2 .f32 :=
  select (broadcastInDim S64x4x8192x2 ![0, 1, 2, 3] bcast_S1x1x8192x1_S64x4x8192x2_0_1_2_3 M) (broadcastInDim S64x4x8192x2 ![] bcast_S_S64x4x8192x2 (id (constant S_ .f32 0x00000000#32))) (select (broadcastInDim S64x4x8192x2 ![2] bcast_S8192_S64x4x8192x2_2 (Host.reduce IntOp.andi (andi (cmpi .sge X (broadcastInDim S8192x1 ![] bcast_S_S8192x1 (constantI S_ 32 0#32))) (cmpi .sle X (broadcastInDim S8192x1 ![0, 1] bcast_S1x1_S8192x1_0_1 (broadcastInDim S1x1 ![1] bcast_S1_S1x1_1 (constantI S1 32 1023#32))))) (constantI S_ 1 1#1) reducesTo_S8192x1_S8192_d1 h_S_)) (Host.gather gather_S64x4x1024x2_S8192x1_S64x4x8192x2_013_2_n_n_2_1_64412 f X) (broadcastInDim S64x4x8192x2 ![] bcast_S_S64x4x8192x2 (constant S_ .f32 0x7FC00000#32)))

/-- Where a row of words is positive. -/
def positive (w : S8192.Idx → BitVec 32) : S1x1x8192x1.Idx → BitVec 1 :=
  broadcastInDim S1x1x8192x1 ![2] bcast_S8192_S1x1x8192x1_2 (cmpi .sgt w (broadcastInDim S8192 ![] bcast_S_S8192 (constantI S_ 32 0#32)))

/-- The complex conjugate. -/
def conj (z : FVec Ideal S64x4x8192x2 .f32) : FVec Ideal S64x4x8192x2 .f32 :=
  concatenate S64x4x8192x2 3 [⟨S64x4x8192x1, (broadcastInDim S64x4x8192x1 ![0, 1, 2] bcast_S64x4x8192_S64x4x8192x1_0_1_2 (shapeCast _ (extractStridedSlice S64x4x8192x1 ![0, 0, 0, 0] z slices_S64x4x8192x2_S64x4x8192x1_0_0_0_0) shapeCasts_S64x4x8192x1_S64x4x8192))⟩, ⟨S64x4x8192x1, (broadcastInDim S64x4x8192x1 ![0, 1, 2] bcast_S64x4x8192_S64x4x8192x1_0_1_2 (Host.negf (shapeCast _ (extractStridedSlice S64x4x8192x1 ![0, 0, 0, 1] z slices_S64x4x8192x2_S64x4x8192x1_0_0_0_1) shapeCasts_S64x4x8192x1_S64x4x8192)))⟩] concatenates_S64x4x8192x1_S64x4x8192x1_S64x4x8192x2_d3

/-- One half's gap. -/
def gap (S p0 p1 q0 q1 : FVec Ideal S64x4x8192x2 .f32) : FVec Ideal S64x4x8192x2 .f32 :=
  (subf (subf S (concatenate S64x4x8192x2 3 [⟨S64x4x8192x1, (broadcastInDim S64x4x8192x1 ![0, 1, 2] bcast_S64x4x8192_S64x4x8192x1_0_1_2 (subf (mulf (shapeCast _ (extractStridedSlice S64x4x8192x1 ![0, 0, 0, 0] p0 slices_S64x4x8192x2_S64x4x8192x1_0_0_0_0) shapeCasts_S64x4x8192x1_S64x4x8192) (shapeCast _ (extractStridedSlice S64x4x8192x1 ![0, 0, 0, 0] (conj q1) slices_S64x4x8192x2_S64x4x8192x1_0_0_0_0) shapeCasts_S64x4x8192x1_S64x4x8192)) (mulf (shapeCast _ (extractStridedSlice S64x4x8192x1 ![0, 0, 0, 1] p0 slices_S64x4x8192x2_S64x4x8192x1_0_0_0_1) shapeCasts_S64x4x8192x1_S64x4x8192) (shapeCast _ (extractStridedSlice S64x4x8192x1 ![0, 0, 0, 1] (conj q1) slices_S64x4x8192x2_S64x4x8192x1_0_0_0_1) shapeCasts_S64x4x8192x1_S64x4x8192))))⟩, ⟨S64x4x8192x1, (broadcastInDim S64x4x8192x1 ![0, 1, 2] bcast_S64x4x8192_S64x4x8192x1_0_1_2 (addf (mulf (shapeCast _ (extractStridedSlice S64x4x8192x1 ![0, 0, 0, 0] p0 slices_S64x4x8192x2_S64x4x8192x1_0_0_0_0) shapeCasts_S64x4x8192x1_S64x4x8192) (shapeCast _ (extractStridedSlice S64x4x8192x1 ![0, 0, 0, 1] (conj q1) slices_S64x4x8192x2_S64x4x8192x1_0_0_0_1) shapeCasts_S64x4x8192x1_S64x4x8192)) (mulf (shapeCast _ (extractStridedSlice S64x4x8192x1 ![0, 0, 0, 1] p0 slices_S64x4x8192x2_S64x4x8192x1_0_0_0_1) shapeCasts_S64x4x8192x1_S64x4x8192) (shapeCast _ (extractStridedSlice S64x4x8192x1 ![0, 0, 0, 0] (conj q1) slices_S64x4x8192x2_S64x4x8192x1_0_0_0_0) shapeCasts_S64x4x8192x1_S64x4x8192))))⟩] concatenates_S64x4x8192x1_S64x4x8192x1_S64x4x8192x2_d3)) (concatenate S64x4x8192x2 3 [⟨S64x4x8192x1, (broadcastInDim S64x4x8192x1 ![0, 1, 2] bcast_S64x4x8192_S64x4x8192x1_0_1_2 (subf (mulf (shapeCast _ (extractStridedSlice S64x4x8192x1 ![0, 0, 0, 0] q0 slices_S64x4x8192x2_S64x4x8192x1_0_0_0_0) shapeCasts_S64x4x8192x1_S64x4x8192) (shapeCast _ (extractStridedSlice S64x4x8192x1 ![0, 0, 0, 0] (conj (Host.negf p1)) slices_S64x4x8192x2_S64x4x8192x1_0_0_0_0) shapeCasts_S64x4x8192x1_S64x4x8192)) (mulf (shapeCast _ (extractStridedSlice S64x4x8192x1 ![0, 0, 0, 1] q0 slices_S64x4x8192x2_S64x4x8192x1_0_0_0_1) shapeCasts_S64x4x8192x1_S64x4x8192) (shapeCast _ (extractStridedSlice S64x4x8192x1 ![0, 0, 0, 1] (conj (Host.negf p1)) slices_S64x4x8192x2_S64x4x8192x1_0_0_0_1) shapeCasts_S64x4x8192x1_S64x4x8192))))⟩, ⟨S64x4x8192x1, (broadcastInDim S64x4x8192x1 ![0, 1, 2] bcast_S64x4x8192_S64x4x8192x1_0_1_2 (addf (mulf (shapeCast _ (extractStridedSlice S64x4x8192x1 ![0, 0, 0, 0] q0 slices_S64x4x8192x2_S64x4x8192x1_0_0_0_0) shapeCasts_S64x4x8192x1_S64x4x8192) (shapeCast _ (extractStridedSlice S64x4x8192x1 ![0, 0, 0, 1] (conj (Host.negf p1)) slices_S64x4x8192x2_S64x4x8192x1_0_0_0_1) shapeCasts_S64x4x8192x1_S64x4x8192)) (mulf (shapeCast _ (extractStridedSlice S64x4x8192x1 ![0, 0, 0, 1] q0 slices_S64x4x8192x2_S64x4x8192x1_0_0_0_1) shapeCasts_S64x4x8192x1_S64x4x8192) (shapeCast _ (extractStridedSlice S64x4x8192x1 ![0, 0, 0, 0] (conj (Host.negf p1)) slices_S64x4x8192x2_S64x4x8192x1_0_0_0_0) shapeCasts_S64x4x8192x1_S64x4x8192))))⟩] concatenates_S64x4x8192x1_S64x4x8192x1_S64x4x8192x2_d3))

/-- The two halves of the word arrays, and a half's two columns. -/
def half0 (a : S2x8192x2.Idx → BitVec 32) : S8192x2.Idx → BitVec 32 :=
  shapeCast _ (extractStridedSlice S1x8192x2 ![0, 0, 0] a slices_S2x8192x2_S1x8192x2_0_0_0) shapeCasts_S1x8192x2_S8192x2
def half1 (a : S2x8192x2.Idx → BitVec 32) : S8192x2.Idx → BitVec 32 :=
  shapeCast _ (extractStridedSlice S1x8192x2 ![1, 0, 0] a slices_S2x8192x2_S1x8192x2_1_0_0) shapeCasts_S1x8192x2_S8192x2
def col0 (x : S8192x2.Idx → BitVec 32) : S8192.Idx → BitVec 32 :=
  shapeCast _ (extractStridedSlice S8192x1 ![0, 0] x slices_S8192x2_S8192x1_0_0) shapeCasts_S8192x1_S8192
def col1 (x : S8192x2.Idx → BitVec 32) : S8192.Idx → BitVec 32 :=
  shapeCast _ (extractStridedSlice S8192x1 ![0, 1] x slices_S8192x2_S8192x1_0_1) shapeCasts_S8192x1_S8192

theorem starts_at (w : S8192.Idx → BitVec 32) (l : Fin 8192) (h : (w (ix1 l)).toNat < 1024) : starts w (ix2 l 0) = w (ix1 l) := by
  unfold starts
  pointwise
  have e : IntOp.cmpi .slt (w (ix1 l)) 0#32 = 0#1 := by
    generalize w (ix1 l) = x at h
    have hx : ¬ x.slt 0#32 := by
      rw [BitVec.slt_eq_decide, decide_eq_true_eq, BitVec.toInt_eq_toNat_of_lt (by omega)]
      simp
    simp [IntOp.cmpi, hx]
  rw [e]
  simp [Scalar.select]

/-- A truth bit is one or zero. -/
theorem bit_cases (x : BitVec 1) : x = 0#1 ∨ x = 1#1 := by
  revert x; decide

/-- The bounds test of an index word in range holds. -/
theorem in_bounds {X : Fin 1 → BitVec 32} (h : (X 0).toNat < 1024) :
    (Finset.univ : Finset (Fin 1)).fold IntOp.andi 1#1 (fun x => IntOp.andi (IntOp.cmpi .sge (X x) 0#32) (IntOp.cmpi .sle (X x) 1023#32)) = 1#1 := by
  have e : (Finset.univ : Finset (Fin 1)) = {0} := rfl
  rw [e, Finset.fold_singleton]
  generalize X 0 = x at h
  have h0 : (0#32).sle x = true := by
    rw [BitVec.sle_eq_decide, decide_eq_true_eq, BitVec.toInt_eq_toNat_of_lt (x := x) (by omega)]
    simp
  have h1 : x.sle 1023#32 = true := by
    rw [BitVec.sle_eq_decide, decide_eq_true_eq, BitVec.toInt_eq_toNat_of_lt (x := x) (by omega)]
    simp
    omega
  simp [IntOp.cmpi, IntOp.andi, h0, h1]

/-- The gather reads the row its start index names. -/
theorem gather_at (f : FVec Ideal S64x4x1024x2 .f32) (X : IVec S8192x1 32) (b : Fin 64) (c : Fin 4) (l : Fin 8192) (e : Fin 2)
    (h : (X (ix2 l 0)).toNat < 1024) :
    Host.gather gather_S64x4x1024x2_S8192x1_S64x4x8192x2_013_2_n_n_2_1_64412 f X (ix4 b c l e) = f (ix4 b c ⟨(X (ix2 l 0)).toNat, h⟩ e) := by
  set D := gather_S64x4x1024x2_S8192x1_S64x4x8192x2_013_2_n_n_2_1_64412 with hD
  unfold Host.gather
  congr 1
  funext a
  refine Fin.ext ?_
  show D.start (ix4 b c l e) X a + D.batchCoord (ix4 b c l e) a + D.offCoord (ix4 b c l e) a = _
  rw [GatherDims.batchCoord_eq_zero _ _ _ List.not_mem_nil]
  have hs : D.siIdx (ix4 b c l e) ⟨0, by decide⟩ = ix2 l 0 := by
    funext k; refine Fin.ext ?_
    fin_cases k <;> rfl
  have ht : (X (ix2 l 0)).toInt.toNat = (X (ix2 l 0)).toNat := by
    rw [BitVec.toInt_eq_toNat_of_lt (by omega)]; simp
  fin_cases a
  · show 0 + 0 + b.val = b.val
    omega
  · show 0 + 0 + c.val = c.val
    omega
  · show min (X (D.siIdx (ix4 b c l e) ⟨0, by decide⟩)).toInt.toNat 1023 + 0 + 0 = (X (ix2 l 0)).toNat
    rw [hs, ht]; omega
  · show 0 + 0 + e.val = e.val
    omega

theorem pick_at (M : S1x1x8192x1.Idx → BitVec 1) (X : S8192x1.Idx → BitVec 32) (f : S64x4x1024x2.Idx → EReal)
    (b : Fin 64) (c : Fin 4) (l : Fin 8192) (e : Fin 2) (h : (X (ix2 l 0)).toNat < 1024) :
    pick M X f (ix4 b c l e) = if M (ix4 0 0 l 0) = 1#1 then 0 else f (ix4 b c ⟨(X (ix2 l 0)).toNat, h⟩ e) := by
  unfold pick
  pointwise
  rw [in_bounds (X := fun x => X (ix2 l x)) h, gather_at f X b c l e h]
  rcases bit_cases (M (ix4 0 0 l 0)) with e | e <;> rw [e]
  · simp only [Scalar.select]
    rfl
  · have z : (constant S_ .f32 0x00000000#32 : FVec Ideal S_ .f32) ix0 = 0 := by pointwise
    simp only [Scalar.select]
    exact z

theorem positive_at (w : S8192.Idx → BitVec 32) (l : Fin 8192) : positive w (ix4 0 0 l 0) = IntOp.cmpi .sgt (w (ix1 l)) 0#32 := by
  unfold positive
  pointwise

theorem cat_re (x y : S64x4x8192x1.Idx → EReal) (h : Shape.Concatenates [S64x4x8192x1, S64x4x8192x1] S64x4x8192x2 3)
    (b : Fin 64) (c : Fin 4) (l : Fin 8192) :
    concatenate S64x4x8192x2 3 [⟨S64x4x8192x1, x⟩, ⟨S64x4x8192x1, y⟩] h (ix4 b c l 0) = x (ix4 b c l 0) :=
  concatenate_pair_apply_left 3 x y h _ rfl (ix4 b c l 0) (by intro a; fin_cases a <;> rfl)

theorem cat_im (x y : S64x4x8192x1.Idx → EReal) (h : Shape.Concatenates [S64x4x8192x1, S64x4x8192x1] S64x4x8192x2 3)
    (b : Fin 64) (c : Fin 4) (l : Fin 8192) :
    concatenate S64x4x8192x2 3 [⟨S64x4x8192x1, x⟩, ⟨S64x4x8192x1, y⟩] h (ix4 b c l 1) = y (ix4 b c l 0) :=
  concatenate_pair_apply_right 3 x y h _ rfl rfl (ix4 b c l 0)
    (by intro a ha; fin_cases a <;> first | rfl | exact absurd rfl ha) rfl

theorem conj_re (z : S64x4x8192x2.Idx → EReal) (b : Fin 64) (c : Fin 4) (l : Fin 8192) : conj z (ix4 b c l 0) = z (ix4 b c l 0) := by
  unfold conj
  refine (cat_re _ _ _ b c l).trans ?_
  pointwise

theorem conj_im (z : S64x4x8192x2.Idx → EReal) (b : Fin 64) (c : Fin 4) (l : Fin 8192) : conj z (ix4 b c l 1) = -z (ix4 b c l 1) := by
  unfold conj
  refine (cat_im _ _ _ b c l).trans ?_
  pointwise

theorem gap_re (S p0 p1 q0 q1 : S64x4x8192x2.Idx → EReal) (b : Fin 64) (c : Fin 4) (l : Fin 8192) :
    gap S p0 p1 q0 q1 (ix4 b c l 0) = S (ix4 b c l 0)
      - (p0 (ix4 b c l 0) * q1 (ix4 b c l 0) - p0 (ix4 b c l 1) * -q1 (ix4 b c l 1))
      - (q0 (ix4 b c l 0) * -p1 (ix4 b c l 0) - q0 (ix4 b c l 1) * -(-p1 (ix4 b c l 1))) := by
  unfold gap
  pointwise [cat_re, conj_re, conj_im]

theorem gap_im (S p0 p1 q0 q1 : S64x4x8192x2.Idx → EReal) (b : Fin 64) (c : Fin 4) (l : Fin 8192) :
    gap S p0 p1 q0 q1 (ix4 b c l 1) = S (ix4 b c l 1)
      - (p0 (ix4 b c l 0) * -q1 (ix4 b c l 1) + p0 (ix4 b c l 1) * q1 (ix4 b c l 0))
      - (q0 (ix4 b c l 0) * -(-p1 (ix4 b c l 1)) + q0 (ix4 b c l 1) * -p1 (ix4 b c l 0)) := by
  unfold gap
  pointwise [cat_im, conj_re, conj_im]

theorem half0_col0 (a : S2x8192x2.Idx → BitVec 32) (l : Fin 8192) : col0 (half0 a) (ix1 l) = a (ix3 0 l 0) := by
  pointwise [col0, half0]
theorem half0_col1 (a : S2x8192x2.Idx → BitVec 32) (l : Fin 8192) : col1 (half0 a) (ix1 l) = a (ix3 0 l 1) := by
  pointwise [col1, half0]
theorem half1_col0 (a : S2x8192x2.Idx → BitVec 32) (l : Fin 8192) : col0 (half1 a) (ix1 l) = a (ix3 1 l 0) := by
  pointwise [col0, half1]
theorem half1_col1 (a : S2x8192x2.Idx → BitVec 32) (l : Fin 8192) : col1 (half1 a) (ix1 l) = a (ix3 1 l 1) := by
  pointwise [col1, half1]

/-- The gap of a half with word columns `x0`, `x1`, `k0`, `k1` and difference row `S`. -/
def gapOf (S : FVec Ideal S64x4x8192x2 .f32) (x0 x1 k0 k1 : IVec S8192 32) : FVec Ideal S64x4x8192x2 .f32 :=
  gap S (pick (positive k0) (starts x0) (subf (F := Ideal) (φ := .f32) (iP V0) (tP V0))) (pick (positive k1) (starts x1) (subf (F := Ideal) (φ := .f32) (iP V0) (tP V0)))
    (pick (positive k0) (starts x0) (tP V0)) (pick (positive k1) (starts x1) (tP V0))

theorem gap_halves : (res_main_v188 V0 : S64x4x16384x2.Idx → EReal) = concatenate S64x4x16384x2 2
    [⟨S64x4x8192x2, gapOf V0 (extractStridedSlice S64x4x8192x2 ![0, 0, 0, 0] (subf (F := Ideal) (φ := .f32) (iL V0) (tL V0)) slices_S64x4x16384x2_S64x4x8192x2_0_0_0_0)
      (col0 (half0 (xi V0))) (col1 (half0 (xi V0))) (col0 (half0 (ks V0))) (col1 (half0 (ks V0)))⟩,
     ⟨S64x4x8192x2, gapOf V0 (extractStridedSlice S64x4x8192x2 ![0, 0, 8192, 0] (subf (F := Ideal) (φ := .f32) (iL V0) (tL V0)) slices_S64x4x16384x2_S64x4x8192x2_0_0_8192_0)
      (col0 (half1 (xi V0))) (col1 (half1 (xi V0))) (col0 (half1 (ks V0))) (col1 (half1 (ks V0)))⟩]
    concatenates_S64x4x8192x2_S64x4x8192x2_S64x4x16384x2_d2 := rfl

theorem catL_lo (x y : S64x4x8192x2.Idx → EReal) (h : Shape.Concatenates [S64x4x8192x2, S64x4x8192x2] S64x4x16384x2 2)
    (b : Fin 64) (c : Fin 4) (l : Fin 8192) (e : Fin 2) :
    concatenate S64x4x16384x2 2 [⟨S64x4x8192x2, x⟩, ⟨S64x4x8192x2, y⟩] h (ix4 b c ⟨l.val, by omega⟩ e) = x (ix4 b c l e) :=
  concatenate_pair_apply_left 2 x y h _ rfl (ix4 b c l e) (by intro a; fin_cases a <;> rfl)

theorem catL_hi (x y : S64x4x8192x2.Idx → EReal) (h : Shape.Concatenates [S64x4x8192x2, S64x4x8192x2] S64x4x16384x2 2)
    (b : Fin 64) (c : Fin 4) (l : Fin 8192) (e : Fin 2) :
    concatenate S64x4x16384x2 2 [⟨S64x4x8192x2, x⟩, ⟨S64x4x8192x2, y⟩] h (ix4 b c ⟨8192 + l.val, by omega⟩ e) = y (ix4 b c l e) :=
  concatenate_pair_apply_right 2 x y h _ rfl rfl (ix4 b c l e)
    (by intro a ha; fin_cases a <;> first | rfl | exact absurd rfl ha) (by show l.val + 8192 = 8192 + l.val; omega)

theorem harm_lo (b : Fin 64) (c : Fin 4) (l : Fin 8192) (e : Fin 2) :
    (res_main_v188 V0 : S64x4x16384x2.Idx → EReal) (ix4 b c ⟨l.val, by omega⟩ e)
      = gapOf V0 (extractStridedSlice S64x4x8192x2 ![0, 0, 0, 0] (subf (F := Ideal) (φ := .f32) (iL V0) (tL V0)) slices_S64x4x16384x2_S64x4x8192x2_0_0_0_0)
      (col0 (half0 (xi V0))) (col1 (half0 (xi V0))) (col0 (half0 (ks V0))) (col1 (half0 (ks V0))) (ix4 b c l e) :=
  (congrFun (gap_halves V0) _).trans (catL_lo _ _ _ b c l e)

theorem harm_hi (b : Fin 64) (c : Fin 4) (l : Fin 8192) (e : Fin 2) :
    (res_main_v188 V0 : S64x4x16384x2.Idx → EReal) (ix4 b c ⟨8192 + l.val, by omega⟩ e)
      = gapOf V0 (extractStridedSlice S64x4x8192x2 ![0, 0, 8192, 0] (subf (F := Ideal) (φ := .f32) (iL V0) (tL V0)) slices_S64x4x16384x2_S64x4x8192x2_0_0_8192_0)
      (col0 (half1 (xi V0))) (col1 (half1 (xi V0))) (col0 (half1 (ks V0))) (col1 (half1 (ks V0))) (ix4 b c l e) :=
  (congrFun (gap_halves V0) _).trans (catL_hi _ _ _ b c l e)

/-- A null where the bit `n` is set. -/
abbrev nul (n : BitVec 1) (x : EReal) : EReal := if n = 1#1 then 0 else x

/-- The real part of a gap: difference `s`, the two picked gaps `g0 + i h0`, `g1 + i h1` and the two picked targets
    `f0 + i e0`, `f1 + i e1`, the first of each nulled under `n0`, the second under `n1`. -/
def gapRe (n0 n1 : BitVec 1) (s g0 h0 g1 h1 f0 e0 f1 e1 : EReal) : EReal :=
  s - (nul n0 g0 * nul n1 f1 - nul n0 h0 * -nul n1 e1) - (nul n0 f0 * -nul n1 g1 - nul n0 e0 * -(-nul n1 h1))

/-- The imaginary part. -/
def gapIm (n0 n1 : BitVec 1) (s g0 h0 g1 h1 f0 e0 f1 e1 : EReal) : EReal :=
  s - (nul n0 g0 * -nul n1 e1 + nul n0 h0 * nul n1 f1) - (nul n0 f0 * -(-nul n1 h1) + nul n0 e0 * -nul n1 g1)

/-- A plane of pairs read at pair `j`. -/
abbrev at4 {N : ℕ} (f : (⟨4, ![64, 4, N, 2]⟩ : Shape).Idx → EReal) (b : Fin 64) (c : Fin 4) (j : ℕ) (h : j < N) (e : Fin 2) : EReal :=
  f (ix4 b c ⟨j, h⟩ e)

/-- A picked row at an index. -/
theorem picked_at (x k : S8192.Idx → BitVec 32) (f : S64x4x1024x2.Idx → EReal) (b : Fin 64) (c : Fin 4) (l : Fin 8192) (e : Fin 2)
    (h : (x (ix1 l)).toNat < 1024) :
    pick (positive k) (starts x) f (ix4 b c l e) = nul (IntOp.cmpi .sgt (k (ix1 l)) 0#32) (at4 f b c _ h e) := by
  have e0 := starts_at x l h
  rw [pick_at _ _ _ b c l e (e0 ▸ h), positive_at]
  simp only [e0]

theorem gapOf_re (S : S64x4x8192x2.Idx → EReal) (x0 x1 k0 k1 : S8192.Idx → BitVec 32) (b : Fin 64) (c : Fin 4) (l : Fin 8192)
    (h0 : (x0 (ix1 l)).toNat < 1024) (h1 : (x1 (ix1 l)).toNat < 1024) :
    gapOf V0 S x0 x1 k0 k1 (ix4 b c l 0) = gapRe (IntOp.cmpi .sgt (k0 (ix1 l)) 0#32) (IntOp.cmpi .sgt (k1 (ix1 l)) 0#32) (S (ix4 b c l 0))
      (at4 (iP V0) b c _ h0 0 - at4 (tP V0) b c _ h0 0) (at4 (iP V0) b c _ h0 1 - at4 (tP V0) b c _ h0 1)
      (at4 (iP V0) b c _ h1 0 - at4 (tP V0) b c _ h1 0) (at4 (iP V0) b c _ h1 1 - at4 (tP V0) b c _ h1 1)
      (at4 (tP V0) b c _ h0 0) (at4 (tP V0) b c _ h0 1) (at4 (tP V0) b c _ h1 0) (at4 (tP V0) b c _ h1 1) := by
  have e := fun f => picked_at x0 k0 f b c l 0 h0
  have e' := fun f => picked_at x0 k0 f b c l 1 h0
  have d := fun f => picked_at x1 k1 f b c l 0 h1
  have d' := fun f => picked_at x1 k1 f b c l 1 h1
  unfold gapOf
  rw [gap_re, e, e', d, d', e, e', d, d']
  rfl

theorem gapOf_im (S : S64x4x8192x2.Idx → EReal) (x0 x1 k0 k1 : S8192.Idx → BitVec 32) (b : Fin 64) (c : Fin 4) (l : Fin 8192)
    (h0 : (x0 (ix1 l)).toNat < 1024) (h1 : (x1 (ix1 l)).toNat < 1024) :
    gapOf V0 S x0 x1 k0 k1 (ix4 b c l 1) = gapIm (IntOp.cmpi .sgt (k0 (ix1 l)) 0#32) (IntOp.cmpi .sgt (k1 (ix1 l)) 0#32) (S (ix4 b c l 1))
      (at4 (iP V0) b c _ h0 0 - at4 (tP V0) b c _ h0 0) (at4 (iP V0) b c _ h0 1 - at4 (tP V0) b c _ h0 1)
      (at4 (iP V0) b c _ h1 0 - at4 (tP V0) b c _ h1 0) (at4 (iP V0) b c _ h1 1 - at4 (tP V0) b c _ h1 1)
      (at4 (tP V0) b c _ h0 0) (at4 (tP V0) b c _ h0 1) (at4 (tP V0) b c _ h1 0) (at4 (tP V0) b c _ h1 1) := by
  have e := fun f => picked_at x0 k0 f b c l 0 h0
  have e' := fun f => picked_at x0 k0 f b c l 1 h0
  have d := fun f => picked_at x1 k1 f b c l 0 h1
  have d' := fun f => picked_at x1 k1 f b c l 1 h1
  unfold gapOf
  rw [gap_im, e, e', d, d', e, e', d, d']
  rfl

end Cert.Proof.RefAt
-- ==== Proof.RefHarm.lean ====
/-
  The reference's harmonic gap at a half and a position of it, by its real and imaginary parts.
-/
module

public import proofs.«01_k».proof.Proof.RefAt

@[expose] public section

set_option maxRecDepth 16384

noncomputable section

namespace Cert.Proof.RefAt

open Cert.ReferenceIdeal Cert.ReferenceIdeal.Gen Cert.ReferenceIdeal.Value Idealize.ShloMosaic Idealize.ShloMosaic.StableHlo

variable (V0 : Valuation τ sig (Elt Ideal))

/-- A position of the half `n` lies in the whole row. -/
theorem half_lt (n : Fin 2) (l : Fin 8192) : 8192 * n.val + l.val < 16384 := by omega

/-- The operands of the gap at half `n` and position `l` of plane `(b, c)`, its difference read at part `e`, put to `k`. -/
abbrev operands (h : ∀ i, (xi V0 i).toNat < 1024) (k : BitVec 1 → BitVec 1 → EReal → EReal → EReal → EReal → EReal → EReal → EReal → EReal → EReal → EReal)
    (b : Fin 64) (c : Fin 4) (n : Fin 2) (l : Fin 8192) (e : Fin 2) : EReal :=
  k (IntOp.cmpi .sgt (ks V0 (ix3 n l 0)) 0#32) (IntOp.cmpi .sgt (ks V0 (ix3 n l 1)) 0#32)
    (iL V0 (ix4 b c ⟨8192 * n.val + l.val, half_lt n l⟩ e) - tL V0 (ix4 b c ⟨8192 * n.val + l.val, half_lt n l⟩ e))
    (at4 (iP V0) b c _ (h (ix3 n l 0)) 0 - at4 (tP V0) b c _ (h (ix3 n l 0)) 0) (at4 (iP V0) b c _ (h (ix3 n l 0)) 1 - at4 (tP V0) b c _ (h (ix3 n l 0)) 1)
    (at4 (iP V0) b c _ (h (ix3 n l 1)) 0 - at4 (tP V0) b c _ (h (ix3 n l 1)) 0) (at4 (iP V0) b c _ (h (ix3 n l 1)) 1 - at4 (tP V0) b c _ (h (ix3 n l 1)) 1)
    (at4 (tP V0) b c _ (h (ix3 n l 0)) 0) (at4 (tP V0) b c _ (h (ix3 n l 0)) 1) (at4 (tP V0) b c _ (h (ix3 n l 1)) 0) (at4 (tP V0) b c _ (h (ix3 n l 1)) 1)

/-- The two difference rows of the halves at a position. -/
theorem slice_lo (b : Fin 64) (c : Fin 4) (l : Fin 8192) (e : Fin 2) :
    (extractStridedSlice S64x4x8192x2 ![0, 0, 0, 0] (subf (F := Ideal) (φ := .f32) (iL V0) (tL V0)) slices_S64x4x16384x2_S64x4x8192x2_0_0_0_0 : S64x4x8192x2.Idx → EReal) (ix4 b c l e)
      = iL V0 (ix4 b c ⟨l.val, by omega⟩ e) - tL V0 (ix4 b c ⟨l.val, by omega⟩ e) := by
  pointwise
theorem slice_hi (b : Fin 64) (c : Fin 4) (l : Fin 8192) (e : Fin 2) :
    (extractStridedSlice S64x4x8192x2 ![0, 0, 8192, 0] (subf (F := Ideal) (φ := .f32) (iL V0) (tL V0)) slices_S64x4x16384x2_S64x4x8192x2_0_0_8192_0 : S64x4x8192x2.Idx → EReal) (ix4 b c l e)
      = iL V0 (ix4 b c ⟨8192 + l.val, by omega⟩ e) - tL V0 (ix4 b c ⟨8192 + l.val, by omega⟩ e) := by
  pointwise

/-- The real part of the gap. -/
theorem harm_re (h : ∀ i, (xi V0 i).toNat < 1024) (b : Fin 64) (c : Fin 4) (n : Fin 2) (l : Fin 8192) :
    (res_main_v188 V0 : S64x4x16384x2.Idx → EReal) (ix4 b c ⟨8192 * n.val + l.val, half_lt n l⟩ 0) = operands V0 h gapRe b c n l 0 := by
  rcases (show n = 0 ∨ n = 1 by omega) with rfl | rfl
  · have e : (⟨8192 * (0 : Fin 2).val + l.val, half_lt 0 l⟩ : Fin 16384) = ⟨l.val, by omega⟩ := Fin.ext (by simp)
    unfold operands
    rw [e, harm_lo, gapOf_re _ _ _ _ _ _ b c l (half0_col0 (xi V0) l ▸ h _) (half0_col1 (xi V0) l ▸ h _)]
    simp only [half0_col0, half0_col1, slice_lo]
  · have e : (⟨8192 * (1 : Fin 2).val + l.val, half_lt 1 l⟩ : Fin 16384) = ⟨8192 + l.val, by omega⟩ := Fin.ext (by simp)
    unfold operands
    rw [e, harm_hi, gapOf_re _ _ _ _ _ _ b c l (half1_col0 (xi V0) l ▸ h _) (half1_col1 (xi V0) l ▸ h _)]
    simp only [half1_col0, half1_col1, slice_hi]

/-- The imaginary part. -/
theorem harm_im (h : ∀ i, (xi V0 i).toNat < 1024) (b : Fin 64) (c : Fin 4) (n : Fin 2) (l : Fin 8192) :
    (res_main_v188 V0 : S64x4x16384x2.Idx → EReal) (ix4 b c ⟨8192 * n.val + l.val, half_lt n l⟩ 1) = operands V0 h gapIm b c n l 1 := by
  rcases (show n = 0 ∨ n = 1 by omega) with rfl | rfl
  · have e : (⟨8192 * (0 : Fin 2).val + l.val, half_lt 0 l⟩ : Fin 16384) = ⟨l.val, by omega⟩ := Fin.ext (by simp)
    unfold operands
    rw [e, harm_lo, gapOf_im _ _ _ _ _ _ b c l (half0_col0 (xi V0) l ▸ h _) (half0_col1 (xi V0) l ▸ h _)]
    simp only [half0_col0, half0_col1, slice_lo]
  · have e : (⟨8192 * (1 : Fin 2).val + l.val, half_lt 1 l⟩ : Fin 16384) = ⟨8192 + l.val, by omega⟩ := Fin.ext (by simp)
    unfold operands
    rw [e, harm_hi, gapOf_im _ _ _ _ _ _ b c l (half1_col0 (xi V0) l ▸ h _) (half1_col1 (xi V0) l ▸ h _)]
    simp only [half1_col0, half1_col1, slice_hi]

end Cert.Proof.RefAt
-- ==== Proof.Sums.lean ====
/-
  The kernel's folds over the extended reals: a fold of additions is a sum, the sums over the tasks' lanes are sums over
  all planes and positions, and one position's two squares are the reference's.
-/
module

public import Idealize.ShloMosaic.Lib.Pointwise
public import proofs.«01_k».proof.Proof.Vals
public import proofs.«01_k».proof.Proof.RefAt

@[expose] public section

noncomputable section

namespace Cert.Proof.Sums

open Idealize.ShloMosaic Cert.Proof.Vals Cert.Proof.RefAt Finset

/-! ## Extended reals -/

/-- An extended real that is no real number. -/
def Inf (x : EReal) : Prop := x = ⊤ ∨ x = ⊥

theorem inf_coe (r : ℝ) : ¬ Inf r := by rintro (h | h) <;> simp at h

theorem not_inf {x : EReal} (h : ¬ Inf x) : ∃ r : ℝ, x = r := by
  induction x with
  | bot => exact absurd (Or.inr rfl) h
  | top => exact absurd (Or.inl rfl) h
  | coe r => exact ⟨r, rfl⟩

theorem inf_neg (x : EReal) : Inf (-x) ↔ Inf x := by
  unfold Inf
  rw [EReal.neg_eq_top_iff, EReal.neg_eq_bot_iff, or_comm]

theorem inf_add (x y : EReal) : Inf (x + y) ↔ Inf x ∨ Inf y := by
  induction x with
  | bot => simp [Inf]
  | top => induction y <;> simp [Inf]
  | coe r =>
    induction y with
    | bot => simp [Inf]
    | top => simp [Inf]
    | coe s =>
      constructor
      · intro h
        exact absurd (EReal.coe_add r s ▸ h) (inf_coe _)
      · rintro (h | h)
        · exact absurd h (inf_coe _)
        · exact absurd h (inf_coe _)

theorem inf_sub (x y : EReal) : Inf (x - y) ↔ Inf x ∨ Inf y := by
  rw [sub_eq_add_neg, inf_add, inf_neg]

/-- The square of an infinite value is positive infinity. -/
theorem inf_sq {x : EReal} (h : Inf x) : x * x = ⊤ := by
  rcases h with rfl | rfl <;> simp

/-- A difference bracketed two ways has one square: where every number is real the two are equal, and elsewhere both
    are infinite. -/
theorem sq_brackets (s a a' b c : EReal) :
    (s - (((a + a') - b) - c)) * (s - (((a + a') - b) - c)) = (s - (a + a') - (-b - c)) * (s - (a + a') - (-b - c)) := by
  by_cases h : Inf s ∨ Inf a ∨ Inf a' ∨ Inf b ∨ Inf c
  · rw [inf_sq, inf_sq]
    · simp only [inf_sub, inf_add, inf_neg]; tauto
    · simp only [inf_sub, inf_add]; tauto
  · simp only [not_or] at h
    obtain ⟨hs, ha, ha', hb, hc⟩ := h
    obtain ⟨s, rfl⟩ := not_inf hs
    obtain ⟨a, rfl⟩ := not_inf ha
    obtain ⟨a', rfl⟩ := not_inf ha'
    obtain ⟨b, rfl⟩ := not_inf hb
    obtain ⟨c, rfl⟩ := not_inf hc
    norm_cast
    ring

/-! ## One position -/

theorem c0_eq : (c0 : Ideal .f32) = (0 : EReal) := by
  show Ideal.ofBits .f32 0x00000000#32 = 0
  pointwise
theorem c1_eq : (c1 : Ideal .f32) = (1 : EReal) := by
  show Ideal.ofBits .f32 0x3F800000#32 = 1
  pointwise

/-- A word below four is positive exactly where it is not zero. -/
theorem sgt_word (k : BitVec 32) (h : k.toNat < 4) : IntOp.cmpi .sgt k 0#32 = 1#1 ↔ k ≠ 0#32 := by
  have : k = 0#32 ∨ k = 1#32 ∨ k = 2#32 ∨ k = 3#32 := by
    have e : k = BitVec.ofNat 32 k.toNat := by simp
    have : k.toNat = 0 ∨ k.toNat = 1 ∨ k.toNat = 2 ∨ k.toNat = 3 := by omega
    rcases this with g | g | g | g <;> rw [g] at e <;> simp [e]
  rcases this with rfl | rfl | rfl | rfl <;> decide

/-- The kernel's two squares at a position, their factors masked, are the reference's, its operands nulled. -/
theorem squares (k0 k1 : BitVec 32) (h0 : k0.toNat < 4) (h1 : k1.toNat < 4) (s g0 h0' g1 h1' f0 e0 f1 e1 : EReal) :
    (sq (F := Ideal) (FloatOps.subf s (FloatOps.mulf (mask (F := Ideal) k0 k1) (er (F := Ideal) g0 h0' g1 h1' f0 e0 f1 e1))) : EReal)
      = gapRe (IntOp.cmpi .sgt k0 0#32) (IntOp.cmpi .sgt k1 0#32) s g0 h0' g1 h1' f0 e0 f1 e1
        * gapRe (IntOp.cmpi .sgt k0 0#32) (IntOp.cmpi .sgt k1 0#32) s g0 h0' g1 h1' f0 e0 f1 e1
    ∧ (sq (F := Ideal) (FloatOps.subf s (FloatOps.mulf (mask (F := Ideal) k0 k1) (ei (F := Ideal) g0 h0' g1 h1' f0 e0 f1 e1))) : EReal)
      = gapIm (IntOp.cmpi .sgt k0 0#32) (IntOp.cmpi .sgt k1 0#32) s g0 h0' g1 h1' f0 e0 f1 e1
        * gapIm (IntOp.cmpi .sgt k0 0#32) (IntOp.cmpi .sgt k1 0#32) s g0 h0' g1 h1' f0 e0 f1 e1 := by
  have hm : (mask (F := Ideal) k0 k1 : EReal) = if k0 = 0#32 ∧ k1 = 0#32 then 1 else 0 := by
    unfold mask; split
    · exact c1_eq
    · exact c0_eq
  have hr : (er (F := Ideal) g0 h0' g1 h1' f0 e0 f1 e1 : EReal) = ((g0 * f1 + h0' * e1) - f0 * g1) - e0 * h1' := rfl
  have hi : (ei (F := Ideal) g0 h0' g1 h1' f0 e0 f1 e1 : EReal) = ((h0' * f1 - g0 * e1) + f0 * h1') - e0 * g1 := rfl
  have hq : ∀ e : EReal, (sq (F := Ideal) (FloatOps.subf s (FloatOps.mulf (mask (F := Ideal) k0 k1) e)) : EReal)
      = (s - (mask (F := Ideal) k0 k1 : EReal) * e) * (s - (mask (F := Ideal) k0 k1 : EReal) * e) := fun _ => rfl
  rw [hq, hq, hm, hr, hi]
  unfold gapRe gapIm nul
  by_cases z0 : k0 = 0#32 <;> by_cases z1 : k1 = 0#32
  · have n0 : ¬ IntOp.cmpi .sgt k0 0#32 = 1#1 := fun h => (sgt_word k0 h0).1 h z0
    have n1 : ¬ IntOp.cmpi .sgt k1 0#32 = 1#1 := fun h => (sgt_word k1 h1).1 h z1
    rw [if_pos ⟨z0, z1⟩]
    simp only [if_neg n0, if_neg n1, one_mul]
    constructor
    · have e := sq_brackets s (g0 * f1) (h0' * e1) (f0 * g1) (e0 * h1')
      simpa only [mul_neg, neg_neg, sub_neg_eq_add, sub_eq_add_neg] using e
    · have e := sq_brackets s (h0' * f1) (-(g0 * e1)) (-(f0 * h1')) (e0 * g1)
      simp only [mul_neg, neg_neg]
      rw [add_comm (-(g0 * e1))]
      simpa only [neg_neg, sub_eq_add_neg] using e
  · have n1 : IntOp.cmpi .sgt k1 0#32 = 1#1 := (sgt_word k1 h1).2 z1
    simp [n1, z1]
  · have n0 : IntOp.cmpi .sgt k0 0#32 = 1#1 := (sgt_word k0 h0).2 z0
    simp [n0, z0]
  · have n1 : IntOp.cmpi .sgt k1 0#32 = 1#1 := (sgt_word k1 h1).2 z1
    simp [n1, z1]

/-! ## Folds of additions -/

/-- A fold whose every step adds a number adds the sum of the numbers. -/
theorem foldN_sum {g : ℕ → EReal → EReal} {f : ℕ → EReal} : ∀ (n : ℕ) (a : EReal), (∀ k < n, ∀ b, g k b = b + f k) →
    foldN g n a = a + ∑ k ∈ range n, f k
  | 0, a, _ => by simp [foldN_zero]
  | n + 1, a, h => by
    rw [foldN_succ, h n (by omega), foldN_sum n a fun k hk b => h k (by omega) b, sum_range_succ, add_assoc]

/-- A sum over `a * b` positions by rows of `b`. -/
theorem sum_rows (f : ℕ → EReal) (b : ℕ) : ∀ a, ∑ n ∈ range (a * b), f n = ∑ i ∈ range a, ∑ j ∈ range b, f (b * i + j)
  | 0 => by simp
  | a + 1 => by
    rw [Nat.succ_mul, Finset.sum_range_add, sum_rows f b a, sum_range_succ, Nat.mul_comm a b]

/-! ## The tasks' sums -/

/-- Planes by tasks of eight, and a position's row by lanes of sixteen. -/
theorem sum_tasks (f : ℕ → EReal) : ∑ p ∈ range 256, f p = ∑ i ∈ range 32, ∑ k ∈ range 8, f (8 * i + k) :=
  sum_rows f 8 32

/-- The harmonic fold of a task at lane `l`, where each position `L` of each plane `q` adds `E q L`. -/
theorem tileH_sum (I T S U : ℕ → ℕ → EReal) (xi ks : ℕ → BitVec 32) (E : ℕ → ℕ → EReal) (p l : ℕ) (hp : p + 8 ≤ 256) (hl : l < 16)
    (hE : ∀ q < 256, ∀ L < 16384, ∀ a, addH (F := Ideal) (fun j => FloatOps.subf (F := Ideal) (φ := .f32) (I q j) (T q j)) (T q)
      (S q (2 * L)) (U q (2 * L)) (S q (2 * L + 1)) (U q (2 * L + 1)) (2 * (xi (2 * L)).toNat) (2 * (xi (2 * L + 1)).toNat)
      (mask (ks (2 * L)) (ks (2 * L + 1))) a = (a + E q L : EReal)) :
    (tileH (F := Ideal) I T S U xi ks p l : EReal)
      = ∑ k ∈ range 8, ∑ cn ∈ range 8, ∑ t ∈ range 128, E (p + k) (2048 * cn + 16 * t + l) := by
  unfold tileH
  refine (foldN_sum 8 _ (f := fun k => ∑ cn ∈ range 8, ∑ t ∈ range 128, E (p + k) (2048 * cn + 16 * t + l)) ?_).trans ?_
  · intro k hk b
    unfold planeH
    refine foldN_sum 8 _ (f := fun cn => ∑ t ∈ range 128, E (p + k) (2048 * cn + 16 * t + l)) ?_
    intro cn hcn b
    unfold chunkH
    refine foldN_sum 128 _ (f := fun t => E (p + k) (2048 * cn + 16 * t + l)) ?_
    intro t ht b
    have e := hE (p + k) (by omega) (2048 * cn + 16 * t + l) (by omega) b
    have e0 : 4096 * cn + 2 * (16 * t + l) = 2 * (2048 * cn + 16 * t + l) := by ring
    have e1 : 4096 * cn + (2 * (16 * t + l) + 1) = 2 * (2048 * cn + 16 * t + l) + 1 := by ring
    unfold stepH
    rw [e0, e1]
    exact e
  · exact (congrArg (· + _) c0_eq).trans (zero_add _)

/-- The tasks' harmonic lanes together sum over every plane and position. -/
theorem lanesH (E : ℕ → ℕ → EReal) :
    ∑ i ∈ range 32, ∑ l ∈ range 16, ∑ k ∈ range 8, ∑ cn ∈ range 8, ∑ t ∈ range 128, E (8 * i + k) (2048 * cn + 16 * t + l)
      = ∑ p ∈ range 256, ∑ L ∈ range 16384, E p L := by
  rw [sum_tasks]
  refine sum_congr rfl fun i _ => ?_
  rw [sum_comm]
  refine sum_congr rfl fun k _ => ?_
  rw [sum_comm, show 16384 = 8 * 2048 from rfl, sum_rows]
  refine sum_congr rfl fun cn _ => ?_
  rw [sum_comm, show 2048 = 128 * 16 from rfl, sum_rows]
  refine sum_congr rfl fun t _ => sum_congr rfl fun l _ => ?_
  rw [Nat.add_assoc]

/-- The scattering fold of a task at lane `l`, where the first loop's positions add `A` and the second's add `B`. -/
theorem tileS_sum (I1 T1 I2 T2 : ℕ → ℕ → EReal) (A B : ℕ → ℕ → EReal) (p l : ℕ) (hp : p + 8 ≤ 256) (hl : l < 16)
    (hA : ∀ q < 256, ∀ j < 1024, (sq (F := Ideal) (hv (F := Ideal) (T1 q (2 * j)) (T1 q (2 * j + 1)) (I1 q (2 * j)) (I1 q (2 * j + 1))) : EReal) = A q j)
    (hB : ∀ q < 256, ∀ j < 4096, (sq (F := Ideal) (FloatOps.subf (F := Ideal) (φ := .f32) (T2 q j) (I2 q j)) : EReal) = B q j) :
    (tileS (F := Ideal) I1 T1 I2 T2 p l : EReal)
      = ∑ k ∈ range 8, (∑ t ∈ range 64, A (p + k) (16 * t + l) + ∑ t ∈ range 256, B (p + k) (16 * t + l)) := by
  unfold tileS
  refine (foldN_sum 8 _ (f := fun k => ∑ t ∈ range 64, A (p + k) (16 * t + l) + ∑ t ∈ range 256, B (p + k) (16 * t + l)) ?_).trans ?_
  · intro k hk b
    unfold planeS
    refine (foldN_sum 256 _ (f := fun t => B (p + k) (16 * t + l)) ?_).trans ?_
    · intro t ht b
      exact congrArg (b + ·) (hB (p + k) (by omega) (16 * t + l) (by omega))
    · rw [← add_assoc]
      refine congrArg (· + _) (foldN_sum 64 _ (f := fun t => A (p + k) (16 * t + l)) ?_)
      intro t ht b
      exact congrArg (b + ·) (hA (p + k) (by omega) (16 * t + l) (by omega))
  · exact (congrArg (· + _) c0_eq).trans (zero_add _)

/-- The tasks' scattering lanes together sum over every plane and position. -/
theorem lanesS (A B : ℕ → ℕ → EReal) :
    ∑ i ∈ range 32, ∑ l ∈ range 16, ∑ k ∈ range 8, (∑ t ∈ range 64, A (8 * i + k) (16 * t + l) + ∑ t ∈ range 256, B (8 * i + k) (16 * t + l))
      = ∑ p ∈ range 256, (∑ j ∈ range 1024, A p j + ∑ j ∈ range 4096, B p j) := by
  rw [sum_tasks]
  refine sum_congr rfl fun i _ => ?_
  rw [sum_comm]
  refine sum_congr rfl fun k _ => ?_
  rw [sum_add_distrib, sum_comm, sum_comm (s := range 16) (t := range 256), show 1024 = 64 * 16 from rfl, sum_rows,
    show 4096 = 256 * 16 from rfl, sum_rows]

end Cert.Proof.Sums
-- ==== Proof.Totals.lean ====
/-
  The kernel's tasks, run on the reference's arguments reshaped to planes, sum what the reference sums.
-/
module

public import proofs.«01_k».proof.Proof.KISetup
public import proofs.«01_k».proof.Proof.RefHarm
public import proofs.«01_k».proof.Proof.Sums

@[expose] public section

set_option maxRecDepth 16384

noncomputable section

namespace Cert.Proof.Totals

open Idealize.ShloMosaic Idealize.ShloMosaic.StableHlo Cert.Proof.Vals Cert.Proof.RefAt Cert.Proof.Sums Cert.Proof.KI Finset
open Cert.ReferenceIdeal Cert.ReferenceIdeal.Value

/-! ## Planes -/

/-- A plane's two coordinates, and a position of it. -/
abbrev pb (q : ℕ) : Fin 64 := ⟨q / 4 % 64, Nat.mod_lt _ (by decide)⟩
abbrev pc (q : ℕ) : Fin 4 := ⟨q % 4, Nat.mod_lt _ (by decide)⟩

/-- An array of planes of pairs, flattened to planes of numbers, read at part `e` of pair `j`. -/
theorem pair_at (x : S64x4x1024x2.Idx → EReal) (h : S64x4x1024x2.ShapeCasts Cert.KernelIdeal.S256x2048) (q : ℕ) (hq : q < 256) (j : Fin 1024) (e : Fin 2) :
    p2048 (F := Ideal) (shapeCast Cert.KernelIdeal.S256x2048 x h) q (2 * j.val + e.val) = x (ix4 (pb q) (pc q) j e) := by
  unfold p2048 atN
  refine shapeCast_apply x h _ _ ?_
  rw [Shape.rowMajor_val_four, Shape.rowMajor_val_two]
  show ((q / 4 % 64 * 4 + q % 4) * 1024 + j.val) * 2 + e.val = q % 256 * 2048 + (2 * j.val + e.val) % 2048
  omega

/-- The same of the rows of 16384 pairs. -/
theorem long_at (x : S64x4x16384x2.Idx → EReal) (h : S64x4x16384x2.ShapeCasts Cert.KernelIdeal.S256x32768) (q : ℕ) (hq : q < 256) (j : Fin 16384) (e : Fin 2) :
    p32768 (F := Ideal) (shapeCast Cert.KernelIdeal.S256x32768 x h) q (2 * j.val + e.val) = x (ix4 (pb q) (pc q) j e) := by
  unfold p32768 atN
  refine shapeCast_apply x h _ _ ?_
  rw [Shape.rowMajor_val_four, Shape.rowMajor_val_two]
  show ((q / 4 % 64 * 4 + q % 4) * 16384 + j.val) * 2 + e.val = q % 256 * 32768 + (2 * j.val + e.val) % 32768
  omega

/-- The same of the rows of 4096 numbers. -/
theorem row_at (x : S64x4x4096.Idx → EReal) (h : S64x4x4096.ShapeCasts Cert.KernelIdeal.S256x4096) (q : ℕ) (hq : q < 256) (j : Fin 4096) :
    p4096 (F := Ideal) (shapeCast Cert.KernelIdeal.S256x4096 x h) q j.val = x (ix3 (pb q) (pc q) j) := by
  unfold p4096 atN
  refine shapeCast_apply x h _ _ ?_
  rw [Shape.rowMajor_val_three, Shape.rowMajor_val_two]
  show (q / 4 % 64 * 4 + q % 4) * 4096 + j.val = q % 256 * 4096 + j.val % 4096
  omega

/-- The words of half `n`, flattened, read at part `e` of pair `l`. -/
theorem word_at (x : S2x8192x2.Idx → BitVec 32) (h : S2x8192x2.ShapeCasts Cert.KernelIdeal.S32768) (n : Fin 2) (l : Fin 8192) (e : Fin 2) :
    r32768 (shapeCast Cert.KernelIdeal.S32768 x h) (2 * (8192 * n.val + l.val) + e.val) = x (ix3 n l e) := by
  unfold r32768 atN
  refine shapeCast_apply x h _ _ ?_
  rw [Shape.rowMajor_val_three, Shape.rowMajor_val_one]
  show (n.val * 8192 + l.val) * 2 + e.val = (2 * (8192 * n.val + l.val) + e.val) % 32768
  omega

/-! ## The harmonic sum -/

variable (V0 : Valuation τ sig (Elt Ideal))

/-- The square of an extended real. -/
def square (x : EReal) : EReal := x * x

/-- The reference's squared gap at position `L` of plane `q`. -/
def harmTerm (q L : ℕ) : EReal :=
  ∑ e : Fin 2, square ((res_main_v188 V0 : S64x4x16384x2.Idx → EReal) (ix4 (pb q) (pc q) ⟨L % 16384, Nat.mod_lt _ (by decide)⟩ e))

variable (hP : S64x4x1024x2.ShapeCasts Cert.KernelIdeal.S256x2048) (hL : S64x4x16384x2.ShapeCasts Cert.KernelIdeal.S256x32768)
  (hR : S64x4x4096.ShapeCasts Cert.KernelIdeal.S256x4096) (hW : S2x8192x2.ShapeCasts Cert.KernelIdeal.S32768)

/-- What the kernel adds at a position is the reference's squared gap there. -/
theorem harm_term (hx : ∀ i, (xi V0 i).toNat < 1024) (hk : ∀ i, (ks V0 i).toNat < 4) (q : ℕ) (hq : q < 256) (L : ℕ) (hLt : L < 16384) (a : EReal) :
    addH (F := Ideal) (fun j => FloatOps.subf (F := Ideal) (φ := .f32) (p2048 (shapeCast Cert.KernelIdeal.S256x2048 (iP V0) hP) q j) (p2048 (shapeCast Cert.KernelIdeal.S256x2048 (tP V0) hP) q j))
      (p2048 (shapeCast Cert.KernelIdeal.S256x2048 (tP V0) hP) q)
      (p32768 (shapeCast Cert.KernelIdeal.S256x32768 (iL V0) hL) q (2 * L)) (p32768 (shapeCast Cert.KernelIdeal.S256x32768 (tL V0) hL) q (2 * L))
      (p32768 (shapeCast Cert.KernelIdeal.S256x32768 (iL V0) hL) q (2 * L + 1)) (p32768 (shapeCast Cert.KernelIdeal.S256x32768 (tL V0) hL) q (2 * L + 1))
      (2 * (r32768 (shapeCast Cert.KernelIdeal.S32768 (xi V0) hW) (2 * L)).toNat) (2 * (r32768 (shapeCast Cert.KernelIdeal.S32768 (xi V0) hW) (2 * L + 1)).toNat)
      (mask (r32768 (shapeCast Cert.KernelIdeal.S32768 (ks V0) hW) (2 * L)) (r32768 (shapeCast Cert.KernelIdeal.S32768 (ks V0) hW) (2 * L + 1))) a
      = (a + harmTerm V0 q L : EReal) := by
  obtain ⟨n, l, rfl⟩ : ∃ (n : Fin 2) (l : Fin 8192), L = 8192 * n.val + l.val :=
    ⟨⟨L / 8192, by omega⟩, ⟨L % 8192, by omega⟩, by show L = 8192 * (L / 8192) + L % 8192; omega⟩
  have eL : (⟨(8192 * n.val + l.val) % 16384, Nat.mod_lt _ (by decide)⟩ : Fin 16384) = ⟨8192 * n.val + l.val, half_lt n l⟩ :=
    Fin.ext (Nat.mod_eq_of_lt (half_lt n l))
  have w := fun x : S2x8192x2.Idx → BitVec 32 => word_at x hW n l 0
  have w' := fun x : S2x8192x2.Idx → BitVec 32 => word_at x hW n l 1
  have s := fun x : S64x4x16384x2.Idx → EReal => long_at x hL q hq ⟨8192 * n.val + l.val, half_lt n l⟩ 0
  have s' := fun x : S64x4x16384x2.Idx → EReal => long_at x hL q hq ⟨8192 * n.val + l.val, half_lt n l⟩ 1
  simp only [Fin.val_zero, Fin.val_one, Nat.add_zero] at w w' s s'
  rw [w, w', w, w', s, s, s', s']
  unfold addH
  have p := fun (x : S64x4x1024x2.Idx → EReal) (e : Fin 2) => pair_at x hP q hq ⟨_, hx (ix3 n l e)⟩ 0
  have p' := fun (x : S64x4x1024x2.Idx → EReal) (e : Fin 2) => pair_at x hP q hq ⟨_, hx (ix3 n l e)⟩ 1
  simp only [Fin.val_zero, Fin.val_one, Nat.add_zero] at p p'
  simp only [p, p']
  unfold harmTerm
  rw [Fin.sum_univ_two, eL, harm_re V0 hx, harm_im V0 hx]
  have c := squares (ks V0 (ix3 n l 0)) (ks V0 (ix3 n l 1)) (hk _) (hk _)
  rw [← add_assoc]
  exact congrArg₂ (fun u v : EReal => a + u + v) (c _ _ _ _ _ _ _ _ _).1 (c _ _ _ _ _ _ _ _ _).2

/-- The tasks' harmonic lanes sum the reference's squared gap over every plane and position. -/
theorem harm_total (hx : ∀ i, (xi V0 i).toNat < 1024) (hk : ∀ i, (ks V0 i).toNat < 4) :
    ∑ i : Fin 32, ∑ l : Fin 16, (tileH (F := Ideal) (p2048 (shapeCast Cert.KernelIdeal.S256x2048 (iP V0) hP)) (p2048 (shapeCast Cert.KernelIdeal.S256x2048 (tP V0) hP))
      (p32768 (shapeCast Cert.KernelIdeal.S256x32768 (iL V0) hL)) (p32768 (shapeCast Cert.KernelIdeal.S256x32768 (tL V0) hL))
      (r32768 (shapeCast Cert.KernelIdeal.S32768 (xi V0) hW)) (r32768 (shapeCast Cert.KernelIdeal.S32768 (ks V0) hW)) (8 * i.val) l.val : EReal)
      = ∑ p ∈ range 256, ∑ L ∈ range 16384, harmTerm V0 p L := by
  rw [← lanesH, ← Fin.sum_univ_eq_sum_range (fun i => ∑ l ∈ range 16, ∑ k ∈ range 8, ∑ cn ∈ range 8, ∑ t ∈ range 128, harmTerm V0 (8 * i + k) (2048 * cn + 16 * t + l))]
  refine sum_congr rfl fun i _ => ?_
  rw [← Fin.sum_univ_eq_sum_range (fun l => ∑ k ∈ range 8, ∑ cn ∈ range 8, ∑ t ∈ range 128, harmTerm V0 (8 * i.val + k) (2048 * cn + 16 * t + l))]
  refine sum_congr rfl fun l _ => ?_
  exact tileH_sum _ _ _ _ _ _ (harmTerm V0) (8 * i.val) l.val (by omega) l.isLt fun q hq L hL' a => harm_term V0 hP hL hW hx hk q hq L hL' a

/-- The reference's harmonic sum by planes. -/
theorem harm_planes : ∑ n : Fin 4194304, harmTerm V0 (n.val / 16384) (n.val % 16384) = ∑ p ∈ range 256, ∑ L ∈ range 16384, harmTerm V0 p L := by
  rw [Fin.sum_univ_eq_sum_range (fun n => harmTerm V0 (n / 16384) (n % 16384)), show 4194304 = 256 * 16384 from rfl, sum_rows]
  refine sum_congr rfl fun p _ => sum_congr rfl fun L hL => ?_
  have := Finset.mem_range.mp hL
  rw [show (16384 * p + L) / 16384 = p by omega, show (16384 * p + L) % 16384 = L by omega]

/-! ## The scattering sum -/

/-- The reference's squared gap at position `j` of plane `q`. -/
def scatTerm (q j : ℕ) : EReal :=
  square ((res_main_v17 V0 : S64x4x5120.Idx → EReal) (ix3 (pb q) (pc q) ⟨j % 5120, Nat.mod_lt _ (by decide)⟩))

/-- What the kernel's first loop adds at a position. -/
theorem scat_term_lo (q : ℕ) (hq : q < 256) (j : ℕ) (hj : j < 1024) :
    (sq (F := Ideal) (hv (F := Ideal) (p2048 (shapeCast Cert.KernelIdeal.S256x2048 (tF V0) hP) q (2 * j)) (p2048 (shapeCast Cert.KernelIdeal.S256x2048 (tF V0) hP) q (2 * j + 1))
      (p2048 (shapeCast Cert.KernelIdeal.S256x2048 (iF V0) hP) q (2 * j)) (p2048 (shapeCast Cert.KernelIdeal.S256x2048 (iF V0) hP) q (2 * j + 1))) : EReal) = scatTerm V0 q j := by
  have p := fun x : S64x4x1024x2.Idx → EReal => pair_at x hP q hq ⟨j, hj⟩ 0
  have p' := fun x : S64x4x1024x2.Idx → EReal => pair_at x hP q hq ⟨j, hj⟩ 1
  simp only [Fin.val_zero, Fin.val_one, Nat.add_zero] at p p'
  rw [p, p', p, p']
  unfold scatTerm
  have e : (⟨j % 5120, Nat.mod_lt _ (by decide)⟩ : Fin 5120) = ⟨(⟨j, hj⟩ : Fin 1024).val, by omega⟩ := Fin.ext (Nat.mod_eq_of_lt (by omega))
  rw [e, scat_lo]
  rfl

/-- What its second loop adds. -/
theorem scat_term_hi (q : ℕ) (hq : q < 256) (j : ℕ) (hj : j < 4096) :
    (sq (F := Ideal) (FloatOps.subf (F := Ideal) (φ := .f32) (p4096 (shapeCast Cert.KernelIdeal.S256x4096 (tS V0) hR) q j)
      (p4096 (shapeCast Cert.KernelIdeal.S256x4096 (iS V0) hR) q j)) : EReal) = scatTerm V0 q (1024 + j) := by
  have p := fun x : S64x4x4096.Idx → EReal => row_at x hR q hq ⟨j, hj⟩
  rw [p, p]
  unfold scatTerm
  have e : (⟨(1024 + j) % 5120, Nat.mod_lt _ (by decide)⟩ : Fin 5120) = ⟨1024 + (⟨j, hj⟩ : Fin 4096).val, by omega⟩ := Fin.ext (Nat.mod_eq_of_lt (by omega))
  rw [e, scat_hi]
  rfl

/-- The tasks' scattering lanes sum the reference's squared gap over every plane and position. -/
theorem scat_total :
    ∑ i : Fin 32, ∑ l : Fin 16, (tileS (F := Ideal) (p2048 (shapeCast Cert.KernelIdeal.S256x2048 (iF V0) hP)) (p2048 (shapeCast Cert.KernelIdeal.S256x2048 (tF V0) hP))
      (p4096 (shapeCast Cert.KernelIdeal.S256x4096 (iS V0) hR)) (p4096 (shapeCast Cert.KernelIdeal.S256x4096 (tS V0) hR)) (8 * i.val) l.val : EReal)
      = ∑ p : Fin 256, ∑ j : Fin 5120, scatTerm V0 p.val j.val := by
  have hs : ∀ p, ∑ j : Fin 5120, scatTerm V0 p j.val = ∑ j ∈ range 1024, scatTerm V0 p j + ∑ j ∈ range 4096, scatTerm V0 p (1024 + j) := fun p => by
    rw [Fin.sum_univ_eq_sum_range (fun j => scatTerm V0 p j), show 5120 = 1024 + 4096 from rfl, sum_range_add]
  simp only [hs]
  rw [Fin.sum_univ_eq_sum_range (fun p => ∑ j ∈ range 1024, scatTerm V0 p j + ∑ j ∈ range 4096, scatTerm V0 p (1024 + j)),
    ← lanesS (scatTerm V0) (fun q j => scatTerm V0 q (1024 + j)),
    ← Fin.sum_univ_eq_sum_range (fun i => ∑ l ∈ range 16, ∑ k ∈ range 8, (∑ t ∈ range 64, scatTerm V0 (8 * i + k) (16 * t + l) + ∑ t ∈ range 256, scatTerm V0 (8 * i + k) (1024 + (16 * t + l))))]
  refine sum_congr rfl fun i _ => ?_
  rw [← Fin.sum_univ_eq_sum_range (fun l => ∑ k ∈ range 8, (∑ t ∈ range 64, scatTerm V0 (8 * i.val + k) (16 * t + l) + ∑ t ∈ range 256, scatTerm V0 (8 * i.val + k) (1024 + (16 * t + l))))]
  refine sum_congr rfl fun l _ => ?_
  exact tileS_sum _ _ _ _ (scatTerm V0) (fun q j => scatTerm V0 q (1024 + j)) (8 * i.val) l.val (by omega) l.isLt
    (fun q hq j hj => scat_term_lo V0 hP q hq j hj) (fun q hq j hj => scat_term_hi V0 hR q hq j hj)

end Cert.Proof.Totals
-- ==== Proof.Alg.lean ====
/-
  The two losses the kernel ends with are the reference's, over the extended reals.
-/
module

public import proofs.«01_k».proof.Proof.KIFin
public import proofs.«01_k».proof.Proof.Totals
public import Idealize.ShloMosaic.Lib.Pointwise

@[expose] public section

set_option maxRecDepth 16384

noncomputable section

namespace Cert.Proof.Alg

open Idealize.ShloMosaic Idealize.ShloMosaic.StableHlo Cert.Proof.Vals Cert.Proof.RefAt Cert.Proof.Totals Finset

/-- The reference's scattering loss on arguments `V0`. -/
def refScat (V0 : Valuation Cert.ReferenceIdeal.τ Cert.ReferenceIdeal.sig (Elt Ideal)) : FVec Ideal Cert.ReferenceIdeal.S_ .f32 :=
  Host.divf (Host.reduceAdd (shapeCast Cert.ReferenceIdeal.S256 (Host.reduceAdd (mulf (Cert.ReferenceIdeal.Value.res_main_v17 V0) (Cert.ReferenceIdeal.Value.res_main_v17 V0)) (constant Cert.ReferenceIdeal.S_ .f32 0x00000000#32)
    Cert.ReferenceIdeal.Gen.reducesTo_S64x4x5120_S64x4_d2 Cert.ReferenceIdeal.Gen.h_S_) Cert.ReferenceIdeal.Gen.shapeCasts_S64x4_S256) (constant Cert.ReferenceIdeal.S_ .f32 0x00000000#32)
    Cert.ReferenceIdeal.Gen.reducesTo_S256_S_d0 Cert.ReferenceIdeal.Gen.h_S_) (constant Cert.ReferenceIdeal.S_ .f32 0x43800000#32)

/-- Its harmonic loss. -/
def refHarm (V0 : Valuation Cert.ReferenceIdeal.τ Cert.ReferenceIdeal.sig (Elt Ideal)) : FVec Ideal Cert.ReferenceIdeal.S_ .f32 :=
  Host.divf (Host.reduceAdd (shapeCast Cert.ReferenceIdeal.S4194304 (Host.reduceAdd (mulf (Cert.ReferenceIdeal.Value.res_main_v188 V0) (Cert.ReferenceIdeal.Value.res_main_v188 V0)) (constant Cert.ReferenceIdeal.S_ .f32 0x00000000#32)
    Cert.ReferenceIdeal.Gen.reducesTo_S64x4x16384x2_S64x4x16384_d3 Cert.ReferenceIdeal.Gen.h_S_) Cert.ReferenceIdeal.Gen.shapeCasts_S64x4x16384_S4194304) (constant Cert.ReferenceIdeal.S_ .f32 0x00000000#32)
    Cert.ReferenceIdeal.Gen.reducesTo_S4194304_S_d0 Cert.ReferenceIdeal.Gen.h_S_) (constant Cert.ReferenceIdeal.S_ .f32 0x4A800000#32)

/-- The reference's scattering loss is the sum of its squared gap over planes and positions, divided. -/
theorem refScat_at (V0 : Valuation Cert.ReferenceIdeal.τ Cert.ReferenceIdeal.sig (Elt Ideal)) (j : Cert.ReferenceIdeal.S_.Idx) :
    (refScat V0 j : EReal) = Ideal.div (∑ p : Fin 256, ∑ j : Fin 5120, scatTerm V0 p.val j.val) (Ideal.ofBits FTy.f32 0x43800000#32) := by
  unfold refScat
  generalize hx : Cert.ReferenceIdeal.Value.res_main_v17 V0 = x
  pointwise
  refine congrArg (Ideal.div · _) (sum_congr rfl fun p _ => sum_congr rfl fun j _ => ?_)
  unfold scatTerm square
  rw [hx, show pb p.val = ⟨p.val / 4, by omega⟩ from Fin.ext (Nat.mod_eq_of_lt (by omega)),
    show (⟨j.val % 5120, Nat.mod_lt _ (by decide)⟩ : Fin 5120) = j from Fin.ext (Nat.mod_eq_of_lt j.isLt)]

/-- The reference's harmonic loss likewise. -/
theorem refHarm_at (V0 : Valuation Cert.ReferenceIdeal.τ Cert.ReferenceIdeal.sig (Elt Ideal)) (j : Cert.ReferenceIdeal.S_.Idx) :
    (refHarm V0 j : EReal) = Ideal.div (∑ p ∈ range 256, ∑ L ∈ range 16384, harmTerm V0 p L) (Ideal.ofBits FTy.f32 0x4A800000#32) := by
  have key (n : Fin 4194304) : harmTerm V0 (n.val / 16384) (n.val % 16384)
      = ∑ e : Fin 2, square ((Cert.ReferenceIdeal.Value.res_main_v188 V0 : Cert.ReferenceIdeal.S64x4x16384x2.Idx → EReal)
          (ix4 ⟨n.val / 65536, by omega⟩ ⟨n.val / 16384 % 4, by omega⟩ ⟨n.val % 16384, by omega⟩ e)) := by
    have hn := n.isLt
    have e1 : n.val / 16384 / 4 % 64 = n.val / 65536 := by omega
    have e2 : n.val % 16384 % 16384 = n.val % 16384 := Nat.mod_mod _ _
    unfold harmTerm
    simp only [pb, pc, e1, e2]
  rw [← harm_planes]
  simp only [key, square]
  unfold refHarm
  generalize hx : Cert.ReferenceIdeal.Value.res_main_v188 V0 = x
  pointwise

open Cert.KernelIdeal Cert.KernelIdeal.Gen Cert.Proof.KI

/-- The sum of a result's rows, divided. -/
theorem rows_at (x : FVec Ideal S32x16 .f32) (c : BitVec 32) (j : S_.Idx) :
    (Host.divf (Host.reduceAdd x (constant S_ .f32 0x00000000#32) reducesTo_S32x16_S_d0_1 h_S_) (constant S_ .f32 c) j : EReal)
      = Ideal.div (∑ i : Fin 32, ∑ l : Fin 16, (x (ix2 i l) : EReal)) (Ideal.ofBits FTy.f32 c) := by
  pointwise

variable (m : (ℓ : Loc nD τ sig) → Buf (Elt Ideal) ℓ) (d : Dev nD)
  (V0 : Valuation Cert.ReferenceIdeal.τ Cert.ReferenceIdeal.sig (Elt Ideal))

/-- On the same arguments the kernel's scattering loss is the reference's. -/
theorem scat_eq (h0 : iF V0 = m (d, rf main_arg0)) (h2 : iS V0 = m (d, rf main_arg2)) (h4 : tF V0 = m (d, rf main_arg4)) (h6 : tS V0 = m (d, rf main_arg6)) :
    (V3 m d (rf main_v12) : S_.Idx → EReal) = refScat V0 := by
  funext j
  rw [refScat_at, ← scat_total V0 shapeCasts_S64x4x1024x2_S256x2048 shapeCasts_S64x4x4096_S256x4096, h0, h2, h4, h6]
  refine (congrFun (V3_scat m d) j).trans ((rows_at _ _ j).trans ?_)
  unfold scatV
  rw [V1_v6, V1_v7, V1_v8, V1_v9]
  rfl

/-- And its harmonic loss, when the index words and the null words are in range. -/
theorem harm_eq (h1 : iP V0 = m (d, rf main_arg1)) (h3 : iL V0 = m (d, rf main_arg3)) (h5 : tP V0 = m (d, rf main_arg5)) (h7 : tL V0 = m (d, rf main_arg7))
    (h8 : xi V0 = m (d, rf main_arg8)) (h9 : ks V0 = m (d, rf main_arg9))
    (hx : ∀ i, (m (d, rf main_arg8) i : BitVec 32).toNat < 1024) (hk : ∀ i, (m (d, rf main_arg9) i : BitVec 32).toNat < 4) :
    (V3 m d (rf main_v14) : S_.Idx → EReal) = refHarm V0 := by
  funext j
  rw [refHarm_at, ← harm_total V0 shapeCasts_S64x4x1024x2_S256x2048 shapeCasts_S64x4x16384x2_S256x32768 shapeCasts_S2x8192x2_S32768
    (fun i => by rw [h8]; exact hx i) (fun i => by rw [h9]; exact hk i), h1, h3, h5, h7, h8, h9]
  refine (congrFun (V3_harm m d) j).trans ((rows_at _ _ j).trans ?_)
  unfold harmV
  rw [V1_v0, V1_v1, V1_v2, V1_v3, V1_v4, V1_v5]
  rfl

end Cert.Proof.Alg
-- ==== Proof.lean ====
/-
  The claims of `Defs.lean`: the kernel runs on any index words in range and leaves its arguments as they were, over the
  words and over the extended reals; the reference runs likewise; and over the extended reals the kernel's two losses
  are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.KFin
public import proofs.«01_k».proof.Proof.Alg
public import Idealize.ShloMosaic.Adequacy
public import Idealize.ShloMosaic.Init

@[expose] public section

noncomputable section

namespace Cert.Proof

open Idealize.ShloMosaic Idealize.SL.Sem

/-- The index words and the null words of the kernel's arguments are in range. -/
theorem words_K (m : (ℓ : Loc Cert.Kernel.nD Cert.Kernel.τ Cert.Kernel.sig) → Buf (Elt Bits) ℓ) (h : Cert.Pre_Kernel m) (d : Dev Cert.Kernel.nD) :
    ∀ i, (m (d, K.rf Cert.Kernel.main_arg8) i : BitVec 32).toNat < 1024 :=
  (Pre.words _ _ _ _ _ _ _ _ _ _ (h d)).1

/-- The same of the kernel over the extended reals. -/
theorem words_KI (m : (ℓ : Loc Cert.KernelIdeal.nD Cert.KernelIdeal.τ Cert.KernelIdeal.sig) → Buf (Elt Ideal) ℓ) (h : Cert.Pre_KernelIdeal m) (d : Dev Cert.KernelIdeal.nD) :
    (∀ i, (m (d, KI.rf Cert.KernelIdeal.main_arg8) i : BitVec 32).toNat < 1024) ∧ ∀ i, (m (d, KI.rf Cert.KernelIdeal.main_arg9) i : BitVec 32).toNat < 4 :=
  Pre.words _ _ _ _ _ _ _ _ _ _ (h d)

/-- The kernel runs, its arguments end unchanged and its semaphores at zero. -/
theorem frame_K : Cert.quiescent_Kernel := fun m g h =>
  (θ_run (Cert.Kernel.defs (F := Bits)) _ _).mono (fun _ hr => ⟨fun c => (hr.1 c).2.2, hr.2⟩)
    (K.run_results (F := Bits) m g (words_K m h))

/-- So does the kernel over the extended reals. -/
theorem frame_KI : Cert.quiescent_KernelIdeal := fun m g h =>
  (θ_run (Cert.KernelIdeal.defs (F := Ideal)) _ _).mono (fun _ hr => ⟨fun c => (hr.1 c).2.2, hr.2⟩)
    (KI.run_results (F := Ideal) m g fun d => (words_KI m h d).1)

/-- The reference runs, its arguments end unchanged; it has no semaphores. -/
theorem frame_RI : Cert.quiescent_ReferenceIdeal := fun m g _ =>
  (θ_run (Cert.ReferenceIdeal.defs (F := Ideal)) _ _).mono
    (fun r hr => ⟨fun c => (hr c).2.2, sem_eq_zero_of_no_sems (by decide) r.2⟩)
    (Cert.ReferenceIdeal.Value.run (F := Ideal) m g)

/-- Over the extended reals the kernel's two losses are the reference's. -/
theorem losses : Cert.algebraic_KernelIdeal_ReferenceIdeal := by
  intro m g m' g' hpre hag
  refine ⟨fun c => KI.V3 m c (KI.rf Cert.KernelIdeal.main_v12), fun c => KI.V3 m c (KI.rf Cert.KernelIdeal.main_v14),
    (θ_run (Cert.KernelIdeal.defs (F := Ideal)) _ _).mono (fun _ hr => hr.1) (KI.run_results (F := Ideal) m g fun d => (words_KI m hpre d).1),
    (θ_run (Cert.ReferenceIdeal.defs (F := Ideal)) _ _).mono (fun r hr c => ?_) (Cert.ReferenceIdeal.Value.run (F := Ideal) m' g')⟩
  obtain ⟨h0, h1, h2, h3, h4, h5, h6, h7, h8, h9⟩ := hag c
  obtain ⟨hx, hk⟩ := words_KI m hpre c
  exact ⟨(hr c).1.trans (Alg.scat_eq m c (StableHlo.launchContents m' c) h0 h2 h4 h6).symm,
    (hr c).2.1.trans (Alg.harm_eq m c (StableHlo.launchContents m' c) h1 h3 h5 h7 h8 h9 hx hk).symm, (hr c).2.2⟩

theorem claim : Cert.Claim := ⟨Cert.Kernel.Gen.facts, Cert.KernelIdeal.Gen.facts, Cert.ReferenceIdeal.Gen.facts, Cert.Pre_in_range.Gen.facts,
  frame_K, frame_KI, frame_RI, fun m g _ => frame_RI m g trivial, trivial, losses⟩

end Cert.Proof

end
